-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 256]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1, 512]⟩ ⟨2, ![1, 1024]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![1024, 256]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S512x256 : Shape := ⟨2, ![512, 256]⟩
abbrev S1x512 : Shape := ⟨2, ![1, 512]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel

variable [Facts]

def fn {F : FTy → Type} [FloatOps F] (main_arg0 : FVec F S512x256 .bf16) (main_arg1 : IVec S1x512 32) : IVec S_ 1 :=
  let main_c : IVec S_ 32 := constantI S_ 32 0#32
  let main_v0 : IVec S1x512 32 := broadcastInDim S1x512 ![] bcast_S_S1x512 main_c
  let main_v1 : IVec S1x512 1 := cmpi .eq main_arg1 main_v0
  let main_c_0 : IVec S_ 32 := constantI S_ 32 1#32
  let main_v2 : IVec S1x512 32 := broadcastInDim S1x512 ![] bcast_S_S1x512 main_c_0
  let main_v3 : IVec S1x512 1 := cmpi .eq main_arg1 main_v2
  let main_v4 : IVec S1x512 1 := ori main_v1 main_v3
  let main_c_1 : IVec S_ 1 := constantI S_ 1 1#1
  let main_v5 : IVec S_ 1 := (fun x v => Host.reduce IntOp.andi x v reducesTo_S1x512_S_d0_1 h_S_) main_v4 main_c_1
  let main_c_2 : IVec S_ 32 := constantI S_ 32 0#32
  let main_v6 : IVec S_ 32 := (fun x v => Host.reduce IntOp.addi x v reducesTo_S1x512_S_d0_1 h_S_) main_arg1 main_c_2
  let main_c_3 : IVec S_ 32 := constantI S_ 32 256#32
  let main_v7 : IVec S_ 1 := cmpi .eq main_v6 main_c_3
  let main_v8 : IVec S_ 1 := andi main_v5 main_v7
  main_v8
-- ==== Pre_balanced_ReferenceIdeal.lean ====
abbrev S1024x256 : Shape := ⟨2, ![1024, 256]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S1024x256 .bf16) (main_arg1 : IVec S1x1024 32) : IVec S_ 1 :=
  let main_c : IVec S_ 32 := constantI S_ 32 0#32
  let main_v0 : IVec S1x1024 32 := broadcastInDim S1x1024 ![] bcast_S_S1x1024 main_c
  let main_v1 : IVec S1x1024 1 := cmpi .eq main_arg1 main_v0
  let main_c_0 : IVec S_ 32 := constantI S_ 32 1#32
  let main_v2 : IVec S1x1024 32 := broadcastInDim S1x1024 ![] bcast_S_S1x1024 main_c_0
  let main_v3 : IVec S1x1024 1 := cmpi .eq main_arg1 main_v2
  let main_v4 : IVec S1x1024 1 := ori main_v1 main_v3
  let main_c_1 : IVec S_ 1 := constantI S_ 1 1#1
  let main_v5 : IVec S_ 1 := (fun x v => Host.reduce IntOp.andi x v reducesTo_S1x1024_S_d0_1 h_S_) main_v4 main_c_1
  let main_c_2 : IVec S_ 32 := constantI S_ 32 0#32
  let main_v6 : IVec S_ 32 := (fun x v => Host.reduce IntOp.addi x v reducesTo_S1x1024_S_d0_1 h_S_) main_arg1 main_c_2
  let main_c_3 : IVec S_ 32 := constantI S_ 32 256#32
  let main_v7 : IVec S_ 1 := cmpi .eq main_v6 main_c_3
  let main_v8 : IVec S_ 1 := andi main_v5 main_v7
  main_v8
-- ==== Kernel.lean ====
abbrev S512x256 : Shape := ⟨2, ![512, 256]⟩
abbrev S1x512 : Shape := ⟨2, ![1, 512]⟩
abbrev S256x256 : Shape := ⟨2, ![256, 256]⟩
abbrev S2 : Shape := ⟨1, ![2]⟩
abbrev S_ : Shape := ⟨0, ![]⟩
abbrev S1x1x512 : Shape := ⟨3, ![1, 1, 512]⟩
abbrev S1 : Shape := ⟨1, ![1]⟩
abbrev S1x1x1 : Shape := ⟨3, ![1, 1, 1]⟩
abbrev S128x512 : Shape := ⟨2, ![128, 512]⟩
abbrev S128x256 : Shape := ⟨2, ![128, 256]⟩
abbrev S256x512 : Shape := ⟨2, ![256, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .bf16⟩
  | .hbm, ⟨1, _⟩ => ⟨S1x512, .i32⟩
  | .hbm, ⟨2, _⟩ => ⟨S512x256, .bf16⟩
  | .local _ .vmem, ⟨0, _⟩ => ⟨S512x256, .bf16⟩
  | .local _ .vmem, ⟨1, _⟩ => ⟨S1x512, .i32⟩
  | .local _ .vmem, ⟨2, _⟩ => ⟨S512x256, .bf16⟩
  | .local _ .vmem, ⟨3, _⟩ => ⟨S256x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_mult1 (d0 : Dev nD) (v83 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_31 : BitVec 32 := 1#32
  let v84 : BitVec 1 := Scalar.cmpi .eq v2 c1_i32_31
  let c512_i32 : BitVec 32 := 512#32
  let v85 : BitVec 32 := Scalar.subi c512_i32 v83
  let c0_i32_32 : BitVec 32 := 0#32
  let v86 : BitVec 32 := Scalar.select v84 v85 c0_i32_32
  v86

def k0_mult2 (d0 : Dev nD) (v83 : BitVec 32) : BitVec 32 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_33 : BitVec 32 := 0#32
  let v88 : BitVec 1 := Scalar.cmpi .eq v2 c0_i32_33
  let c0_i32_34 : BitVec 32 := 0#32
  let v89 : BitVec 32 := Scalar.select v88 c0_i32_34 v83
  v89
def k0_off1 (d0 : Dev nD) (v83 : BitVec 32) (c0_i32_42 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_31 : BitVec 32 := 1#32
  let v84 : BitVec 1 := Scalar.cmpi .eq v2 c1_i32_31
  let c512_i32 : BitVec 32 := 512#32
  let v85 : BitVec 32 := Scalar.subi c512_i32 v83
  let c0_i32_32 : BitVec 32 := 0#32
  let v86 : BitVec 32 := Scalar.select v84 v85 c0_i32_32
  let v87 : BitVec 32 := v86
  let v108 : BitVec 32 := Scalar.addi v87 c0_i32_42
  let c0_i32_49 : BitVec 32 := 0#32
  ![v108.toNat, 0]
def k0_dev2 (d0 : Dev nD) : Nat :=
  let c0_i32_46 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_45 : BitVec 32 := 16#32
  let v109 : BitVec 32 := Scalar.muli v9 c16_i32_45
  let v110 : BitVec 32 := Scalar.addi c0_i32_46 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v111 : BitVec 32 := Scalar.muli v5 c4_i32_47
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v113 : BitVec 32 := Scalar.muli v8 c1_i32_48
  let v114 : BitVec 32 := Scalar.addi v112 v113
  v114.toNat
def k0_dev3 (d0 : Dev nD) : Nat :=
  let c0_i32_59 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_58 : BitVec 32 := 16#32
  let v136 : BitVec 32 := Scalar.muli v9 c16_i32_58
  let v137 : BitVec 32 := Scalar.addi c0_i32_59 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_60 : BitVec 32 := 4#32
  let v138 : BitVec 32 := Scalar.muli v5 c4_i32_60
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v140 : BitVec 32 := Scalar.muli v8 c1_i32_61
  let v141 : BitVec 32 := Scalar.addi v139 v140
  v141.toNat
def k0_off2 (d0 : Dev nD) (v83 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_33 : BitVec 32 := 0#32
  let v88 : BitVec 1 := Scalar.cmpi .eq v2 c0_i32_33
  let c0_i32_34 : BitVec 32 := 0#32
  let v89 : BitVec 32 := Scalar.select v88 c0_i32_34 v83
  let v90 : BitVec 32 := v89
  let v159 : Index := Scalar.indexCast v90
  let c0_67 : Index := 0#32
  ![v159.toNat, 0]

def k0_chk1 (d0 : Dev nD) (v83 : BitVec 32) : Prop :=
  (8 ∣ (k0_mult1 d0 v83).toNat) ∧
  (8 ∣ (k0_mult2 d0 v83).toNat) ∧
  (∀ (r : Fin 2), ∀ a, (k0_off1 d0 v83 (BitVec.ofNat 32 (128 * r.val))) a + S128x256.size a ≤ S512x256.size a) ∧
  (∀ (r : Fin 2), ∀ (hinb : ∀ a, (k0_off1 d0 v83 (BitVec.ofNat 32 (128 * r.val))) a + S128x256.size a ≤ S512x256.size a), (Rect.unit (s := S512x256) (k0_off1 d0 v83 (BitVec.ofNat 32 (128 * r.val))) S128x256.size hinb).WholeWords (EltTy.packing .bf16)) ∧
  (∀ a, (k0_off2 d0 v83) a + S256x256.size a ≤ S512x256.size a) ∧
  (∀ (hinb : ∀ a, (k0_off2 d0 v83) a + S256x256.size a ≤ S512x256.size a), (Rect.unit (s := S512x256) (k0_off2 d0 v83) S256x256.size hinb).PackedRows (EltTy.packing .bf16))
theorem k0_mult1_dvd : ∀ (d0 : Dev nD) (v83 : BitVec 32) (k0_hw1 : k0_chk1 d0 v83), 8 ∣ (k0_mult1 d0 v83).toNat := fun d0 v83 k0_hw1 => k0_hw1.1
theorem k0_mult2_dvd : ∀ (d0 : Dev nD) (v83 : BitVec 32) (k0_hw1 : k0_chk1 d0 v83), 8 ∣ (k0_mult2 d0 v83).toNat := fun d0 v83 k0_hw1 => k0_hw1.2.1
theorem k0_off1_inb : ∀ (d0 : Dev nD) (v83 : BitVec 32) (k0_hw1 : k0_chk1 d0 v83), ∀ (r : Fin 2), ∀ a, (k0_off1 d0 v83 (BitVec.ofNat 32 (128 * r.val))) a + S128x256.size a ≤ S512x256.size a := fun d0 v83 k0_hw1 r => k0_hw1.2.2.1 r
theorem k0_off1_wordsbf16 : ∀ (d0 : Dev nD) (v83 : BitVec 32) (k0_hw1 : k0_chk1 d0 v83), ∀ (r : Fin 2), (Rect.unit (s := S512x256) (k0_off1 d0 v83 (BitVec.ofNat 32 (128 * r.val))) S128x256.size (k0_off1_inb d0 v83 k0_hw1 r)).WholeWords (EltTy.packing .bf16) := fun d0 v83 k0_hw1 r => k0_hw1.2.2.2.1 r (k0_off1_inb d0 v83 k0_hw1 r)
theorem k0_off2_inb : ∀ (d0 : Dev nD) (v83 : BitVec 32) (k0_hw1 : k0_chk1 d0 v83), ∀ a, (k0_off2 d0 v83) a + S256x256.size a ≤ S512x256.size a := fun d0 v83 k0_hw1 => k0_hw1.2.2.2.2.1
theorem k0_off2_packedbf16 : ∀ (d0 : Dev nD) (v83 : BitVec 32) (k0_hw1 : k0_chk1 d0 v83), (Rect.unit (s := S512x256) (k0_off2 d0 v83) S256x256.size (k0_off2_inb d0 v83 k0_hw1)).PackedRows (EltTy.packing .bf16) := fun d0 v83 k0_hw1 => k0_hw1.2.2.2.2.2 (k0_off2_inb d0 v83 k0_hw1)

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x256 : Shape := ⟨2, ![1024, 256]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 15
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S1x1024, .i32⟩
  | .hbm, ⟨2, _⟩ => ⟨S1024, .i32⟩
  | .hbm, ⟨3, _⟩ => ⟨S1024, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Geometry.lean ====
/-
# The devices and the rows

Two devices exchange rows exactly when they differ in the first mesh axis only. With 256 rows to send on every
device, the rows that come from the half `s / 16` of the mesh occupy the rows `256 (s / 16) … + 255` of each result,
whether they were kept by `s` or sent by it, in two chunks of 128 when sent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.HeldBySlice
public import Idealize.ShloMosaic.Lib.Tactic

@[expose] public section

noncomputable section

namespace Cert.Swap

open Cert.KernelIdeal Cert.KernelIdeal.Gen
open Idealize.ShloMosaic Idealize.ShloMosaic.TcCoe
open Idealize.SL.Sem

/-! ## The partner -/

/-- The device with the other coordinate on the first mesh axis and the same on the other two. -/
def mate (c : Dev nD) : Dev nD := ⟨(c.val + 16) % 32, Nat.mod_lt _ (by decide)⟩

theorem mate_mate (c : Dev nD) : mate (mate c) = c := by revert c; decide

/-- The pairing as a permutation of the devices. -/
def mates : Dev nD ≃ Dev nD := ⟨mate, mate, mate_mate, mate_mate⟩

theorem mate_half (c : Dev nD) : (mate c).val / 16 = 1 - c.val / 16 := by revert c; decide

theorem half_le (c : Dev nD) : c.val / 16 ≤ 1 := by revert c; decide

theorem signal_to (c : Dev nD) : (⟨k0_dev1 c, k0_dev1_lt c⟩ : Dev nD) = mate c :=
  Fin.ext ((k0_dev1_eq c).trans (by revert c; decide))
theorem copy0_to (c : Dev nD) : (⟨k0_dev2 c, k0_dev2_lt c⟩ : Dev nD) = mate c :=
  Fin.ext ((k0_dev2_eq c).trans (by revert c; decide))
theorem copy1_to (c : Dev nD) : (⟨k0_dev3 c, k0_dev3_lt c⟩ : Dev nD) = mate c :=
  Fin.ext ((k0_dev3_eq c).trans (by revert c; decide))

/-! ## The buffers -/

/-- The device's block of the rows, its destinations, its result and the send buffer. -/
abbrev xM : Memref sig .tc .vmem S512x256 .bf16 := Memref.whole cc0_stg0_0
abbrev dM : Memref sig .tc .vmem S1x512 .i32 := Memref.whole cc0_stg1_0
abbrev oM : Memref sig .tc .vmem S512x256 .bf16 := Memref.whole cc0_stg2_0
abbrev sM : Memref sig .tc .vmem S256x256 .bf16 := Memref.whole cc0_scratch0

/-! ## Where rows go when every device sends 256 -/

/-- With 256 rows to send, the kernel's own side conditions on its offsets hold. -/
theorem offsets_ok (c : Dev nD) : k0_chk1 c 256#32 := by revert c; decide +kernel

/-- The word `128 k`. -/
abbrev step (k : Fin 2) : BitVec 32 := BitVec.ofNat 32 (128 * k.val)

theorem sent_off (s : Dev nD) (k : Fin 2) : k0_off1 s 256#32 (step k) = ![256 * (s.val / 16) + 128 * k.val, 0] := by
  revert s k; decide +kernel
theorem kept_off (s : Dev nD) : k0_off2 s 256#32 = ![256 * (s.val / 16), 0] := by
  revert s; decide +kernel

/-- The rows of the partner's result that chunk `k` sent by `s` fills. -/
abbrev sentR (s : Dev nD) (k : Fin 2) : Rect S512x256 :=
  Rect.unit (k0_off1 s 256#32 (step k)) S128x256.size (k0_off1_inb s 256#32 (offsets_ok s) k)
/-- The rows of its own result that the rows kept by `s` fill. -/
abbrev keptR (s : Dev nD) : Rect S512x256 :=
  Rect.unit (k0_off2 s 256#32) S256x256.size (k0_off2_inb s 256#32 (offsets_ok s))

theorem part_inb (k : Fin 2) : ∀ a, (![128 * k.val, 0] : Fin 2 → ℕ) a + S128x256.size a ≤ S256x256.size a := by revert k; decide
/-- The two chunks of the send buffer. -/
abbrev partR (k : Fin 2) : Rect S256x256 := Rect.unit ![128 * k.val, 0] S128x256.size (part_inb k)

/-- A band of whole rows: its elements are those whose row lies in the band. -/
theorem mem_band {h w n : ℕ} {off : Fin 2 → ℕ} (o : ℕ) (ho : off = ![o, 0])
    (hin : ∀ a, off a + (⟨2, ![n, w]⟩ : Shape).size a ≤ (⟨2, ![h, w]⟩ : Shape).size a) (i : (⟨2, ![h, w]⟩ : Shape).Idx) :
    i ∈ (Rect.unit (s := ⟨2, ![h, w]⟩) off (⟨2, ![n, w]⟩ : Shape).size hin).set ↔ o ≤ (i 0).val ∧ (i 0).val < o + n := by
  subst ho
  refine (LoadRect.mem_set _).trans ?_
  constructor
  · intro hi
    obtain ⟨j, hj, he⟩ := hi 0
    have hj' : j < n := hj
    have he' : (i 0).val = o + 1 * j := he
    omega
  · rintro ⟨h1, h2⟩ a
    fin_cases a
    · exact ⟨(i 0).val - o, by show _ < n; omega, by show (i 0).val = o + 1 * _; omega⟩
    · exact ⟨(i 1).val, (i 1).isLt, by show (i 1).val = 0 + 1 * _; omega⟩

theorem mem_sentR (s : Dev nD) (k : Fin 2) (i : S512x256.Idx) :
    i ∈ (sentR s k).set ↔ 256 * (s.val / 16) + 128 * k.val ≤ (i 0).val ∧ (i 0).val < 256 * (s.val / 16) + 128 * k.val + 128 :=
  mem_band _ (sent_off s k) _ i
theorem mem_keptR (s : Dev nD) (i : S512x256.Idx) :
    i ∈ (keptR s).set ↔ 256 * (s.val / 16) ≤ (i 0).val ∧ (i 0).val < 256 * (s.val / 16) + 256 :=
  mem_band _ (kept_off s) _ i
theorem mem_part0 (i : S256x256.Idx) : i ∈ (partR 0).set ↔ 0 ≤ (i 0).val ∧ (i 0).val < 0 + 128 := mem_band 0 rfl _ i
theorem mem_part1 (i : S256x256.Idx) : i ∈ (partR 1).set ↔ 128 ≤ (i 0).val ∧ (i 0).val < 128 + 128 := mem_band 128 rfl _ i

/-- The elements a rectangle of a whole buffer names are the rectangle's. -/
theorem out_set (r : Rect S512x256) : (oM.access r : View sig .tc _ _ _).set = r.set := View.set_slice_whole cc0_stg2_0 r
theorem buf_set (r : Rect S256x256) : (sM.access r : View sig .tc _ _ _).set = r.set := View.set_slice_whole cc0_scratch0 r

theorem parts_disjoint : Disjoint (partR 0).set (partR 1).set :=
  Finset.disjoint_left.mpr fun i h h' => by rw [mem_part0] at h; rw [mem_part1] at h'; omega
theorem parts_cover : (partR 0).set ∪ (partR 1).set = Finset.univ :=
  Finset.eq_univ_iff_forall.mpr fun i => by
    rw [Finset.mem_union, mem_part0, mem_part1]
    have : (i 0).val < 256 := (i 0).isLt
    omega

theorem sent_disjoint (s : Dev nD) : Disjoint (sentR s 0).set (sentR s 1).set :=
  Finset.disjoint_left.mpr fun i h h' => by
    rw [mem_sentR] at h h'
    have h0 : (0 : Fin 2).val = 0 := rfl
    have h1 : (1 : Fin 2).val = 1 := rfl
    rw [h0] at h; rw [h1] at h'; omega
theorem kept_disjoint (c : Dev nD) (k : Fin 2) : Disjoint (keptR c).set (sentR (mate c) k).set :=
  Finset.disjoint_left.mpr fun i h h' => by
    rw [mem_keptR] at h; rw [mem_sentR, mate_half] at h'
    have := half_le c; have := k.isLt
    have : c.val / 16 = 0 ∨ c.val / 16 = 1 := by omega
    rcases this with e | e <;> rw [e] at h h' <;> omega
theorem rows_cover (c : Dev nD) : (keptR c).set ∪ ((sentR (mate c) 0).set ∪ (sentR (mate c) 1).set) = Finset.univ :=
  Finset.eq_univ_iff_forall.mpr fun i => by
    rw [Finset.mem_union, Finset.mem_union, mem_keptR, mem_sentR, mem_sentR, mate_half]
    have h0 : (0 : Fin 2).val = 0 := rfl
    have h1 : (1 : Fin 2).val = 1 := rfl
    have : (i 0).val < 512 := (i 0).isLt
    have := half_le c
    have : c.val / 16 = 0 ∨ c.val / 16 = 1 := by omega
    rcases this with e | e <;> rw [e, h0, h1] <;> omega

end Cert.Swap

end
-- ==== Proof.Protocol.lean ====
/-
# The exchange, cell by cell

Five semaphores of each device take part, each in one round with one payment:

* slot 0, the barrier: one unit from the partner, which hands over the rows of its result it gives up;
* slots 1 and 2, the departures: the device's own copy of a chunk has read the send buffer, whose half comes back;
* slots 3 and 4, the arrivals: the partner's copy of a chunk has landed in this device's result.
-/
module

public import proofs.«01_k».proof.Proof.Geometry

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One copy of the rounds' algebra for the staging transfers, one for the exchange. -/
abbrev Alg : Type := UR sig nD τ × UR sig nD τ

local notation "𝕄" => MT nD τ sig Unit (Elt F) ℕ Alg ℕ

abbrev stgE : Emb (UR sig nD τ) (MT nD τ sig Unit (Elt F) ℕ Alg ℕ) := embL
abbrev xchE : Emb (UR sig nD τ) (MT nD τ sig Unit (Elt F) ℕ Alg ℕ) := embR

variable (m : (ℓ : Loc nD τ sig) → Buf (Elt F) ℓ) (ρ : Dev nD → PrngReg)

/-- The launch state: the given memory, every counter zero. -/
def σ₀ : MemSt nD τ sig (Elt F) := ⟨m, fun _ => 0, ρ⟩

/-! ## What the kernel computes on a device -/

/-- The block of rows and the destinations staged on device `c`. -/
def rowsOf (c : Dev nD) : (cc0_stg0_0 : Ref sig .tc).ty.Contents (Elt F) :=
  (win0_0.blk (0 : Fin 1)).view.read (Elt F) ((σ₀ m ρ).mem ((c : Thread nD τ).loc main_arg0))
def destOf (c : Dev nD) : (cc0_stg1_0 : Ref sig .tc).ty.Contents (Elt F) :=
  (win0_1.blk (0 : Fin 1)).view.read (Elt F) ((σ₀ m ρ).mem ((c : Thread nD τ).loc main_arg1))

/-- The running count of the rows to send, from the destinations. -/
def countsOf (c : Dev nD) (d : Vec F S1x512 .i32) : IVec S1x512 32 :=
  k0_pay5 (iota .tc S1x512 32 [1] iota_S1x512_d1_w32) (k0_pay3 c d) k0_pay4

/-- How many rows the device sends, from its destinations. -/
def sendsOf (c : Dev nD) (d : Vec F S1x512 .i32) : BitVec 32 :=
  extractAt ![0, 0, 0] (k0_pay8 (k0_pay2 c d)) inpos_S1x1x1_p0_0_0

/-- The chunks a device sends and the rows it keeps, from its rows and destinations. -/
def chunkOf (c : Dev nD) (x : Vec F S512x256 .bf16) (d : Vec F S1x512 .i32) : Fin 2 → FVec F S128x256 .bf16
  | 0 => k0_pay10 (k0_pay1 c d) (countsOf c d) x
  | 1 => k0_pay11 (k0_pay1 c d) (k0_pay6 (countsOf c d)) (k0_pay9 x) (iota .tc S128x512 32 [0] iota_S128x512_d0_w32)
def keepOf (c : Dev nD) (x : Vec F S512x256 .bf16) (d : Vec F S1x512 .i32) : FVec F S256x256 .bf16 :=
  k0_pay14 (k0_pay9 x) (iota .tc S256x512 32 [0] iota_S256x512_d0_w32) (k0_pay12 (k0_pay1 c d))
    (k0_pay13 (k0_pay7 (iota .tc S1x512 32 [1] iota_S1x512_d1_w32) (countsOf c d)))

def chunk (c : Dev nD) (k : Fin 2) : FVec F S128x256 .bf16 := chunkOf c (rowsOf m ρ c) (destOf m ρ c) k
def keep (c : Dev nD) : FVec F S256x256 .bf16 := keepOf c (rowsOf m ρ c) (destOf m ρ c)

/-! ## The cells -/

abbrev barS : Sem sig := (SemArray.scalar (sig.barrier 0 rfl) : Sems sig S_).sem
abbrev depS : Fin 2 → DmaSem sig
  | 0 => ((cc0_scratch1.slice (Rect.unit (s := S2) ![0] S1.size inb_S2_S1_0)).squeeze S_ squeezes_S1_S_ : DmaSems sig S_).sem
  | 1 => ((cc0_scratch1.slice (Rect.unit (s := S2) ![1] S1.size inb_S2_S1_1)).squeeze S_ squeezes_S1_S_ : DmaSems sig S_).sem
abbrev arrS : Fin 2 → DmaSem sig
  | 0 => ((cc0_scratch2.slice (Rect.unit (s := S2) ![0] S1.size inb_S2_S1_0)).squeeze S_ squeezes_S1_S_ : DmaSems sig S_).sem
  | 1 => ((cc0_scratch2.slice (Rect.unit (s := S2) ![1] S1.size inb_S2_S1_1)).squeeze S_ squeezes_S1_S_ : DmaSems sig S_).sem

/-- The semaphores of the exchange; the four after the barrier are the kernel's own. -/
abbrev own : Fin 4 → SemLoc sig
  | 0 => .dma (depS 0) | 1 => .dma (depS 1) | 2 => .dma (arrS 0) | 3 => .dma (arrS 1)
abbrev slot : Fin 5 → SemLoc sig
  | 0 => .reg barS | 1 => .dma (depS 0) | 2 => .dma (depS 1) | 3 => .dma (arrS 0) | 4 => .dma (arrS 1)
abbrev cell (c : Dev nD) (k : Fin 5) : GSem nD τ sig := ((c : Thread nD τ), slot k)

theorem slot_injective : Function.Injective slot := by decide

/-- Which of the five a semaphore is, if any. -/
def slotNo (s : SemLoc sig) : Option (Fin 5) := (List.finRange 5).find? fun k => slot k = s
theorem slotNo_slot (k : Fin 5) : slotNo (slot k) = some k := by revert k; decide

/-- The slots of chunk `k`'s departure and arrival. -/
abbrev dep : Fin 2 → Fin 5 | 0 => 1 | 1 => 2
abbrev arr : Fin 2 → Fin 5 | 0 => 3 | 1 => 4

/-- What a chunk's transfer pays. -/
abbrev N : ℕ := (sM.slice (partR 0) (fun _ => rfl)).view.dmaCredit
theorem N_pos : 0 < N := View.dmaCredit_pos _ (by decide)

/-! ## Regions of the result and of the send buffer -/

/-- Rows of device `d`'s result under a rectangle, at contents `f`. -/
def outAt (d : Dev nD) (r : Rect S512x256) (f : (cc0_stg2_0 : Ref sig .tc).ty.Contents (Elt F)) : sProp 𝕄 :=
  (oM.access r : View sig .tc _ _ _).loc (d : Thread nD τ) ↦[(oM.access r : View sig .tc _ _ _).set]{fullShare} f
/-- A half of device `d`'s send buffer, at contents `f`. -/
def bufAt (d : Dev nD) (r : Rect S256x256) (f : (cc0_scratch0 : Ref sig .tc).ty.Contents (Elt F)) : sProp 𝕄 :=
  (sM.access r : View sig .tc _ _ _).loc (d : Thread nD τ) ↦[(sM.access r : View sig .tc _ _ _).set]{fullShare} f

/-- Chunk `k` of `s`, arrived in device `d`'s result. -/
def arrived (d s : Dev nD) (k : Fin 2) : sProp 𝕄 :=
  iprop(∃ f, outAt d (sentR s k) ((oM.access (sentR s k) : View sig .tc _ _ _).write (Elt F) f (chunk m ρ s k) Finset.univ))

omit [FloatOps F] in
instance outAt_storable (d : Dev nD) (r f) : BI.Storable (upEmb : UEmb _ 𝕄) (outAt (F := F) d r f) := by unfold outAt; infer_instance
omit [FloatOps F] in
instance bufAt_storable (d : Dev nD) (r f) : BI.Storable (upEmb : UEmb _ 𝕄) (bufAt (F := F) d r f) := by unfold bufAt; infer_instance
instance arrived_storable (d s : Dev nD) (k : Fin 2) : BI.Storable (upEmb : UEmb _ 𝕄) (arrived m ρ d s k) := by unfold arrived; infer_instance

omit [FloatOps F] in
/-- The whole send buffer is its two halves. -/
theorem buf_split (c : Dev nD) (f : (cc0_scratch0 : Ref sig .tc).ty.Contents (Elt F)) :
    (((c : Thread nD τ).loc cc0_scratch0) ↦{fullShare} f : sProp 𝕄) ⊢ iprop(bufAt c (partR 0) f ∗ bufAt c (partR 1) f) := by
  have h : (((c : Thread nD τ).loc cc0_scratch0) ↦{fullShare} f : sProp 𝕄)
      = (((c : Thread nD τ).loc cc0_scratch0) ↦[(partR 0).set ∪ (partR 1).set]{fullShare} f : sProp 𝕄) := by rw [parts_cover]
  rw [h]
  refine (pointsTo_union parts_disjoint).1.trans ?_
  unfold bufAt; rw [buf_set, buf_set]
omit [FloatOps F] in
/-- Two halves, at any contents, are the whole send buffer at some. -/
theorem buf_join (c : Dev nD) (f g : (cc0_scratch0 : Ref sig .tc).ty.Contents (Elt F)) :
    iprop(bufAt c (partR 0) f ∗ bufAt c (partR 1) g) ⊢ iprop(∃ h : Buf (Elt F) ((c : Thread nD τ).loc cc0_scratch0), ((c : Thread nD τ).loc cc0_scratch0) ↦{fullShare} h) := by
  unfold bufAt; rw [buf_set, buf_set]
  refine (pointsTo_join parts_disjoint).trans ?_
  rw [parts_cover]
  iintro H; iexists _; iexact H

omit [FloatOps F] in
/-- The whole result is the rows kept and the two chunks received. -/
theorem out_split (c : Dev nD) (f : (cc0_stg2_0 : Ref sig .tc).ty.Contents (Elt F)) :
    (((c : Thread nD τ).loc cc0_stg2_0) ↦{fullShare} f : sProp 𝕄)
      ⊢ iprop(outAt c (keptR c) f ∗ outAt c (sentR (mate c) 0) f ∗ outAt c (sentR (mate c) 1) f) := by
  have h : (((c : Thread nD τ).loc cc0_stg2_0) ↦{fullShare} f : sProp 𝕄)
      = (((c : Thread nD τ).loc cc0_stg2_0) ↦[(keptR c).set ∪ ((sentR (mate c) 0).set ∪ (sentR (mate c) 1).set)]{fullShare} f : sProp 𝕄) := by
    rw [rows_cover]
  rw [h]
  refine (pointsTo_union (Finset.disjoint_union_right.mpr ⟨kept_disjoint c 0, kept_disjoint c 1⟩)).1.trans ?_
  refine (sep_mono_right (pointsTo_union (sent_disjoint (mate c))).1).trans ?_
  unfold outAt; rw [out_set, out_set, out_set]

/-- What the result of device `c` is made of: the rows it keeps and the two chunks of its partner. -/
def pieces (c : Dev nD) : List (View.Piece (Elt F) S512x256 .bf16) :=
  [⟨keptR c, keep m ρ c⟩, ⟨sentR (mate c) 0, chunk m ρ (mate c) 0⟩, ⟨sentR (mate c) 1, chunk m ρ (mate c) 1⟩]
/-- The result of device `c`: its former contents overwritten by the pieces, which cover it. -/
def resultOf (c : Dev nD) : (cc0_stg2_0 : Ref sig .tc).ty.Contents (Elt F) :=
  oM.view.writes (Elt F) (rowsOf m ρ c) (pieces m ρ c)

/-- The rows kept and the chunks arrived are the whole result. -/
theorem out_join (c : Dev nD) (f : (cc0_stg2_0 : Ref sig .tc).ty.Contents (Elt F)) :
    iprop(outAt c (keptR c) ((oM.access (keptR c) : View sig .tc _ _ _).write (Elt F) f (keep m ρ c) Finset.univ)
        ∗ arrived m ρ c (mate c) 0 ∗ arrived m ρ c (mate c) 1)
      ⊢ (((c : Thread nD τ).loc cc0_stg2_0) ↦{fullShare} resultOf m ρ c : sProp 𝕄) := by
  have hset : Memref.piecesSet (c : Thread nD τ) oM (pieces m ρ c) = Finset.univ := by
    unfold pieces; simp only [Memref.piecesSet]
    rw [out_set, out_set, out_set, Finset.union_empty]; exact rows_cover c
  have hj := Memref.heldBySlice_join (Ix := Unit) (Name := ℕ) (U := Alg) (Lvl := ℕ) (c : Thread nD τ) oM fullShare (rowsOf m ρ c) (pieces m ρ c) (by
    unfold pieces
    simp only [out_set, List.pairwise_cons, List.mem_cons, List.not_mem_nil, or_false, forall_eq_or_imp, forall_eq, List.Pairwise.nil, and_true, IsEmpty.forall_iff, implies_true]
    exact ⟨⟨kept_disjoint c 0, kept_disjoint c 1⟩, sent_disjoint (mate c)⟩)
  rw [hset] at hj
  refine BIBase.Entails.trans ?_ hj
  unfold pieces arrived outAt Memref.heldBySlice Memref.heldBySlice Memref.heldBySlice Memref.heldBySlice
  iintro ⟨H0, ⟨%f1, H1⟩, ⟨%f2, H2⟩⟩
  isplitl [H0]; · iexists f; iexact H0
  isplitl [H1]; · iexists f1; iexact H1
  isplitl [H2]; · iexists f2; iexact H2
  iempintro

/-! ## The schedule -/

/-- What the partner's signal hands device `c`: the partner's rows that `c`'s two chunks fill. -/
def granted (c : Dev nD) : sProp 𝕄 :=
  iprop((∃ f, outAt (F := F) (mate c) (sentR c 0) f) ∗ ∃ f, outAt (F := F) (mate c) (sentR c 1) f)

/-- What the payment of each slot carries. -/
def carries (c : Dev nD) : Fin 5 → sProp 𝕄
  | 0 => granted c
  | 1 => iprop(∃ f, bufAt c (partR 0) f)
  | 2 => iprop(∃ f, bufAt c (partR 1) f)
  | 3 => arrived m ρ c (mate c) 0
  | 4 => arrived m ρ c (mate c) 1

/-- What it amounts to. -/
def units (k : Fin 5) : ℕ := if k = 0 then 1 else N
theorem units_pos (k : Fin 5) : 0 < units k := by unfold units; split; exacts [Nat.one_pos, N_pos]

def plan : Rounds.Schedule (GSem nD τ sig) Unit 𝕄 where
  duties g r := if r = 0 ∧ g.1.2 = .tc ∧ (slotNo g.2).isSome = true then {()} else ∅
  unitless _ := False
  amount g _ _ := match slotNo g.2 with | some k => units k | none => 1
  payload g _ _ := match slotNo g.2 with | some k => carries m ρ g.1.1 k | none => iprop(emp)
  amount_pos g _ _ _ := by split; exacts [units_pos _, Nat.one_pos]

instance carries_storable (c : Dev nD) (k : Fin 5) : BI.Storable (upEmb : UEmb _ 𝕄) (carries m ρ c k) := by
  fin_cases k <;> (unfold carries; try unfold granted) <;> infer_instance

instance plan_storable (g : GSem nD τ sig) (r : ℕ) (d : Unit) : BI.Storable (upEmb : UEmb _ 𝕄) ((plan m ρ).payload g r d) := by
  show BI.Storable upEmb (match slotNo g.2 with | some k => carries m ρ g.1.1 k | none => iprop(emp))
  split <;> infer_instance

theorem plan_duties (c : Dev nD) (k : Fin 5) : (plan m ρ).duties (cell c k) 0 = {()} := by
  dsimp only [plan]; exact if_pos ⟨rfl, rfl, by rw [slotNo_slot]; rfl⟩
theorem plan_duty (c : Dev nD) (k : Fin 5) : () ∈ (plan m ρ).duties (cell c k) 0 := by
  rw [plan_duties]; exact Finset.mem_singleton_self _
theorem plan_later (g : GSem nD τ sig) : ∀ r, 1 ≤ r → (plan m ρ).duties g r = ∅ :=
  fun r hr => by dsimp only [plan]; exact if_neg fun h => by omega
theorem plan_amount (c : Dev nD) (k : Fin 5) (u : Unit) : (plan m ρ).amount (cell c k) 0 u = units k := by
  dsimp only [plan]; rw [slotNo_slot]
theorem plan_payload (c : Dev nD) (k : Fin 5) (u : Unit) : (plan m ρ).payload (cell c k) 0 u = carries m ρ c k := by
  dsimp only [plan]; rw [slotNo_slot]
theorem plan_expect (c : Dev nD) (k : Fin 5) : (plan m ρ).expect (cell c k) 0 = units k := by
  unfold Schedule.expect Schedule.amountOf; rw [plan_duties, Finset.sum_singleton, plan_amount]
theorem plan_rest (c : Dev nD) (k : Fin 5) :
    bigSep ((plan m ρ).duties (cell c k) 0 \ ∅) (fun u => (plan m ρ).payload (cell c k) 0 u) = carries m ρ c k := by
  rw [Finset.sdiff_empty, plan_duties, bigSep_singleton, plan_payload]

/-! ## What a device owes at launch, and the order of the waits -/

/-- The partner's two arrivals. -/
def owesCopies (c : Dev nD) : CellTallies nD τ sig Unit := tallyAt (cell (mate c) 4) () N + tallyAt (cell (mate c) 3) () N
/-- And its barrier. -/
def owesAll (c : Dev nD) : CellTallies nD τ sig Unit := owesCopies c + tallyAt (cell (mate c) 0) () 1

def idx (g : GSem nD τ sig) : Finset Unit := if g.1.2 = .tc then {()} else ∅
/-- The barrier comes before the arrivals. -/
def rank (g : GSem nD τ sig) (_ : Unit) : ℕ :=
  if slotNo g.2 = some 0 then 1 else if slotNo g.2 = some 3 ∨ slotNo g.2 = some 4 then 2 else 0
theorem idx_other (g : GSem nD τ sig) (h : g.1.2 ≠ .tc) : idx g = ∅ := if_neg h
theorem idx_tc (c : Dev nD) (s : SemLoc sig) : idx ((c : Thread nD τ), s) = {()} := if_pos rfl

theorem rank_bar (c : Dev nD) (u : Unit) : rank (cell c 0) u = 1 := by
  unfold rank; rw [show slotNo (cell c 0).2 = some 0 from slotNo_slot 0]; decide
theorem rank_arr0 (c : Dev nD) (u : Unit) : rank (cell c 3) u = 2 := by
  unfold rank; rw [show slotNo (cell c 3).2 = some 3 from slotNo_slot 3]; decide
theorem rank_arr1 (c : Dev nD) (u : Unit) : rank (cell c 4) u = 2 := by
  unfold rank; rw [show slotNo (cell c 4).2 = some 4 from slotNo_slot 4]; decide

theorem cell_eq_iff {a b : Dev nD} {k k' : Fin 5} : cell a k = cell b k' ↔ a = b ∧ k = k' :=
  ⟨fun h => ⟨Fin.ext (congrArg (fun g : GSem nD τ sig => g.1.1.val) h), slot_injective (congrArg Prod.snd h)⟩,
    fun h => by rw [h.1, h.2]⟩

theorem copies_at {c : Dev nD} {g : GSem nD τ sig} {u : Unit} (h : 0 < owesCopies c g u) : g = cell (mate c) 4 ∨ g = cell (mate c) 3 := by
  unfold owesCopies at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h
theorem all_at {c : Dev nD} {g : GSem nD τ sig} {u : Unit} (h : 0 < owesAll c g u) :
    g = cell (mate c) 4 ∨ g = cell (mate c) 3 ∨ g = cell (mate c) 0 := by
  by_cases h' : 0 < owesCopies c g u
  · rcases copies_at h' with h | h
    · exact .inl h
    · exact .inr (.inl h)
  · unfold owesAll at h
    rw [Pi.add_apply, Finsupp.add_apply, Nat.eq_zero_of_not_pos h', tallyAt_apply, Nat.zero_add] at h
    by_contra hn; rw [not_or, not_or] at hn
    rw [if_neg (fun h' => hn.2.2 h'.1)] at h
    exact Nat.lt_irrefl 0 h

/-- The staging transfers may be waited for whatever is owed. -/
theorem may_stage (c : Dev nD) (q : DmaSem sig) (hq : slotNo (.dma q) = none) (O : CellTallies nD τ sig Unit) (hO : O = owesAll c ∨ O = 0) :
    (levAts idx rank : sProp 𝕄) ⊢ MayWait (c : Thread nD τ) (.dma q) () O := by
  rcases hO with rfl | rfl
  · refine MayOwe.of_cut (L := idx) (lev := rank) 0 (fun p hp => by rw [Finset.mem_singleton.mp hp, idx_tc]; exact Finset.mem_singleton_self _)
      (fun g u hg => by rcases all_at hg with rfl | rfl | rfl <;> (rw [idx_tc]; exact Finset.mem_singleton_self _))
      (fun p hp => by rw [Finset.mem_singleton.mp hp]; unfold rank; rw [hq]; decide)
      (fun g u hg => by
        rcases all_at hg with rfl | rfl | rfl
        · rw [rank_arr1]; decide
        · rw [rank_arr0]; decide
        · rw [rank_bar]; decide)
  · rw [MayWait_zero]; iintro -; iempintro

/-- The barrier may be waited for while the two copies are owed. -/
theorem may_bar (c : Dev nD) : (levAts idx rank : sProp 𝕄) ⊢ MayWait (c : Thread nD τ) (slot 0) () (owesCopies c) :=
  MayOwe.of_cut (L := idx) (lev := rank) 1 (fun p hp => by rw [Finset.mem_singleton.mp hp, idx_tc]; exact Finset.mem_singleton_self _)
    (fun g u hg => by rcases copies_at hg with rfl | rfl <;> (rw [idx_tc]; exact Finset.mem_singleton_self _))
    (fun p hp => by rw [Finset.mem_singleton.mp hp]; exact (rank_bar c ()).le)
    (fun g u hg => by
      rcases copies_at hg with rfl | rfl
      · rw [rank_arr1]; decide
      · rw [rank_arr0]; decide)

end Cert.Swap

end
-- ==== Proof.Body.lean ====
/-
# One device's kernel

The kernel signals its partner (handing over the rows the partner fills), counts the rows it has to send, packs the
first chunk, waits for the partner's signal, starts the first copy, packs and starts the second, packs the rows it
keeps into its own result and waits for its two copies and for its partner's.
-/
module

public import proofs.«01_k».proof.Proof.Protocol

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Alg ℕ

variable (m : (ℓ : Loc nD τ sig) → Buf (Elt F) ℓ) (ρ : Dev nD → PrngReg)

/-! ## What a device holds at the start and at the end -/

/-- The cells a device touches: its own five, and its partner's barrier and arrivals. -/
def known (K : Dev nD × Fin 5 → ℕ) (c : Dev nD) : sProp 𝕄 :=
  iprop((cellInv xchE (plan m ρ) (K (c, 0)) (cell c 0) ∗ cellInv xchE (plan m ρ) (K (c, 1)) (cell c 1)
      ∗ cellInv xchE (plan m ρ) (K (c, 2)) (cell c 2) ∗ cellInv xchE (plan m ρ) (K (c, 3)) (cell c 3) ∗ cellInv xchE (plan m ρ) (K (c, 4)) (cell c 4))
    ∗ (cellInv xchE (plan m ρ) (K (mate c, 0)) (cell (mate c) 0) ∗ cellInv xchE (plan m ρ) (K (mate c, 3)) (cell (mate c) 3)
      ∗ cellInv xchE (plan m ρ) (K (mate c, 4)) (cell (mate c) 4))
    ∗ (reached xchE (cell (mate c) 0) 0 ∗ reached xchE (cell c 1) 0 ∗ reached xchE (cell c 2) 0
      ∗ reached xchE (cell (mate c) 3) 0 ∗ reached xchE (cell (mate c) 4) 0))

instance known_persistent (K : Dev nD × Fin 5 → ℕ) (c : Dev nD) : BI.Persistent (known m ρ K c) := by unfold known; infer_instance

/-- Its place in each of its own cells. -/
def places (c : Dev nD) : sProp 𝕄 :=
  iprop(atPos xchE (cell c 0) 0 ∅ 0 ∗ atPos xchE (cell c 1) 0 ∅ 0 ∗ atPos xchE (cell c 2) 0 ∅ 0 ∗ atPos xchE (cell c 3) 0 ∅ 0 ∗ atPos xchE (cell c 4) 0 ∅ 0)

/-- The payments it has to make. -/
def duties (c : Dev nD) : sProp 𝕄 :=
  iprop(dutyTok xchE (cell (mate c) 0) 0 () ∗ dutyTok xchE (cell c 1) 0 () ∗ dutyTok xchE (cell c 2) 0 ()
    ∗ dutyTok xchE (cell (mate c) 3) 0 () ∗ dutyTok xchE (cell (mate c) 4) 0 ())

/-- The payments it is promised. -/
def promised (c : Dev nD) : sProp 𝕄 :=
  iprop(cred (tallyAt (cell c 0) () 1) ∗ cred (tallyAt (cell c 3) () N) ∗ cred (tallyAt (cell c 4) () N))

def ghost (K : Dev nD × Fin 5 → ℕ) (c : Dev nD) : sProp 𝕄 := iprop(known m ρ K c ∗ places c ∗ duties c)
def start (c : Dev nD) : sProp 𝕄 := iprop((∃ K, ghost m ρ K c) ∗ promised c ∗ levAts idx rank)

def spare (c : Dev nD) : sProp 𝕄 :=
  iprop(∃ f : Buf (Elt F) ((c : Thread nD τ).loc cc0_scratch0), ((c : Thread nD τ).loc cc0_scratch0) ↦{fullShare} f)
def atStart (c : Dev nD) : sProp 𝕄 := iprop(start m ρ c ∗ spare c)
def atEnd (c : Dev nD) : sProp 𝕄 :=
  iprop(spare c ∗ semVal (cell c 0) 0 ∗ semVal (cell c 1) 0 ∗ semVal (cell c 2) 0 ∗ semVal (cell c 3) 0 ∗ semVal (cell c 4) 0)

def dats (_ : Fin 1) (c : Dev nD) : Dat τ (Elt F) Unit ℕ Alg ℕ cfg0 c where
  A w := (σ₀ m ρ).mem ((cfg0.win w).arr.view.loc (c : Thread nD τ))
  after w _ := match w with
    | ⟨0, _⟩ => rowsOf m ρ c
    | ⟨1, _⟩ => destOf m ρ c
    | ⟨2, _⟩ => resultOf m ρ c
  Φ t := match t with
    | ⟨0, _⟩ => atStart m ρ c
    | ⟨_ + 1, _⟩ => atEnd c
  q _ := fullShare
  owed t := match t with
    | ⟨0, _⟩ => owesAll c
    | ⟨_ + 1, _⟩ => 0

abbrev 𝒱₀ : Variants := Variants.none

theorem fetches0 (t : Fin cfg0.N) : (cfg0.win (0 : Fin 3)).fetch t = true := by rw [fin_N0 t]; rfl
theorem fetches1 (t : Fin cfg0.N) : (cfg0.win (1 : Fin 3)).fetch t = true := by rw [fin_N0 t]; rfl

/-! ## The walk -/

abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem staged_eq (c : Dev nD) (b : Ref sig .tc) (X : b.ty.Contents (Elt F)) :
    (owns (Ix := Unit) (Name := ℕ) (U := Alg) (Lvl := ℕ) (c : Thread nD τ) (Memref.whole b) fullShare X : sProp 𝕄) = staged c b X := by
  unfold owns; simp only [Memref.view_whole, View.read_whole, View.set_whole]

omit [FloatOps F] in
theorem zero2 : (![0, 0] : Fin 2 → Nat) = fun _ => 0 := funext fun a => by fin_cases a <;> rfl
omit [FloatOps F] in
theorem load_rows (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 zero2 _ f
omit [FloatOps F] in
theorem load_dest (f : (cc0_stg1_0 : Ref sig .tc).ty.Contents (Elt F)) :
    dM.view.readAt (Elt F) (Rect.unit (s := S1x512) ![0, 0] S1x512.size inb_S1x512_S1x512_0_0).toLoadRect f = f :=
  Memref.readAt_unit_zero (Elt F) cc0_stg1_0 zero2 _ f

variable (K : Dev nD × Fin 5 → ℕ)

/-- The semaphores of a chunk's departure and arrival, as the program names them. -/
theorem cell_dep (c : Dev nD) (k : Fin 2) : cell c (dep k) = ((c : Thread nD τ), .dma (depS k)) := by fin_cases k <;> rfl
theorem cell_arr (c : Dev nD) (k : Fin 2) : cell c (arr k) = ((c : Thread nD τ), .dma (arrS k)) := by fin_cases k <;> rfl
theorem units_dep (k : Fin 2) : units (dep k) = N := by fin_cases k <;> rfl
theorem units_arr (k : Fin 2) : units (arr k) = N := by fin_cases k <;> rfl
theorem carries_dep (c : Dev nD) (k : Fin 2) : carries m ρ c (dep k) = iprop(∃ f, bufAt c (partR k) f) := by fin_cases k <;> rfl
theorem carries_arr (c : Dev nD) (k : Fin 2) : carries m ρ c (arr k) = arrived m ρ c (mate c) k := by fin_cases k <;> rfl

/-- What a chunk's copy reads and writes, as memrefs of one shape. -/
abbrev srcM (k : Fin 2) : Memref sig .tc .vmem S128x256 .bf16 := sM.slice (partR k) (fun _ => rfl)
abbrev dstM (c : Dev nD) (k : Fin 2) : Memref sig .tc .vmem S128x256 .bf16 := oM.slice (sentR c k) (fun _ => rfl)

/-- The packed half of the send buffer. -/
abbrev packed (c : Dev nD) (k : Fin 2) (f : (cc0_scratch0 : Ref sig .tc).ty.Contents (Elt F)) : (cc0_scratch0 : Ref sig .tc).ty.Contents (Elt F) :=
  (sM.access (partR k) : View sig .tc _ _ _).write (Elt F) f (chunk m ρ c k) Finset.univ

theorem read_packed (c : Dev nD) (k : Fin 2) (f : (cc0_scratch0 : Ref sig .tc).ty.Contents (Elt F)) :
    (srcM k).view.read (Elt F) (packed m ρ c k f) = chunk m ρ c k :=
  View.read_write_univ (v := (srcM k).view) f (chunk m ρ c k)

theorem dst_amount (c : Dev nD) (k : Fin 2) (s : DmaSem sig) : (dstM c k).view.amount (.dma s) = N := by
  show sig.dmaCredit .tc _ (dstM c k).view.buf S128x256 .bf16 = sig.dmaCredit .tc _ _ S128x256 .bf16
  rfl

/-- A chunk's departure: the packed half and the partner's rows go in; what remains owed, and the credit of the
    departure, come out. -/
theorem depart (c n : Dev nD) (hn : n = mate c) (k : Fin 2)
    {hsc : (dstM c k : Memref sig (Dev.tc n : Thread nD τ).2.kind .vmem S128x256 .bf16).view.ref.isScScratch = false}
    {hsrc : (srcM k).view.WordExact} {hdst : (dstM c k).view.WordExact}
    {hsem : DmaTarget.Typed .vmem (.dma (arrS k)) (.remote (Dev.tc n : Thread nD τ) (dstM c k) (.dma (depS k)) hsc)}
    {α : Type} {Q : α → sProp 𝕄} {kont : PUnit → Prog (TpuEff nD τ sig (Elt F) Λ₀ .tc) α}
    (f : (cc0_scratch0 : Ref sig .tc).ty.Contents (Elt F)) (g : (cc0_stg2_0 : Ref sig .tc).ty.Contents (Elt F))
    (O₁ O₂ : CellTallies nD τ sig Unit) (hO : O₁ = O₂ + tallyAt (cell (mate c) (arr k)) () N) (W : Waits sig Unit) :
    iprop(cellInv xchE (plan m ρ) (K (c, dep k)) (cell c (dep k)) ∗ cellInv xchE (plan m ρ) (K (mate c, arr k)) (cell (mate c) (arr k))
        ∗ bufAt c (partR k) (packed m ρ c k f)
        ∗ outAt (mate c) (sentR c k) g ∗ owes (c : Thread nD τ) O₁ W
        ∗ dutyTok xchE (cell c (dep k)) 0 () ∗ reached xchE (cell c (dep k)) 0
        ∗ dutyTok xchE (cell (mate c) (arr k)) 0 () ∗ reached xchE (cell (mate c) (arr k)) 0)
      ⊢ iprop(((cred (tallyAt (cell c (dep k)) () N) ∗ owes (c : Thread nD τ) O₂ W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (srcM k) (.remote (Dev.tc n : Thread nD τ) (dstM c k) (.dma (depS k)) hsc) (.dma (arrS k)) hsrc hdst hsem) kont) Q) := by
  subst hn
  have h1 := plan_amount m ρ c (dep k) ()
  have h2 := plan_amount m ρ (mate c) (arr k) ()
  have h3 := plan_duty m ρ c (dep k)
  have h4 := plan_duty m ρ (mate c) (arr k)
  have h5 := plan_payload m ρ c (dep k) ()
  have h6 := plan_payload m ρ (mate c) (arr k) ()
  rw [units_dep] at h1; rw [units_arr] at h2
  rw [carries_dep] at h5; rw [carries_arr, mate_mate] at h6
  rw [cell_dep] at h1 h3 h5 ⊢; rw [cell_arr] at h2 h4 h6 hO ⊢
  have p1 : bufAt c (partR k) (packed m ρ c k f) ⊢ (plan m ρ).payload ((c : Thread nD τ), SemLoc.dma (depS k)) 0 () := by
    rw [h5]; iintro H; iexists _; iexact H
  have p2 : outAt (mate c) (sentR c k) ((dstM c k).view.write (Elt F) g ((srcM k).view.read (Elt F) (packed m ρ c k f)) Finset.univ)
      ⊢ (plan m ρ).payload ((mate c : Thread nD τ), SemLoc.dma (arrS k)) 0 () := by
    rw [h6, read_packed]; unfold arrived; iintro H; iexists g; iexact H
  exact Rounds.wp_send_pointsTo (s := S128x256) (c' := (mate c : Thread nD τ)) (src := srcM k) (dst := dstM c k) (sS := .dma (depS k)) (sem := .dma (arrS k))
    𝒱₀ xchE (plan m ρ) (c : Thread nD τ) none (κ₁ := K (c, dep k)) (κ₂ := K (mate c, arr k))
    (r₁ := 0) (r₂ := 0) (d₁ := ()) (d₂ := ()) (q := fullShare) (fs := packed m ρ c k f) (fd := g) h3 h4 () () N
    (dst_amount c k _) h1 h2 O₂ hO (W := W) p1 p2

/-- Every chunk's transfer pays the same. -/
theorem credit (M : Memref sig .tc .vmem S128x256 .bf16) : M.view.dmaCredit = N := rfl

/-- A wait for a chunk's transfer with nothing owed: the payment's contents come out, and the cell is done. -/
theorem await (c : Dev nD) (k : Fin 5) (sm : DmaSem sig) (hsm : slot k = .dma sm) (hk : units k = N)
    {src dst : Memref sig .tc .vmem S128x256 .bf16}
    {hsrc : src.view.WordExact} {hdst : dst.view.WordExact}
    {α : Type} {Q : α → sProp 𝕄} {kont : PUnit → Prog (TpuEff nD τ sig (Elt F) Λ₀ .tc) α} (W : Waits sig Unit) :
    iprop(cellInv xchE (plan m ρ) (K (c, k)) (cell c k) ∗ cred (tallyAt (cell c k) () (units k)) ∗ owes (c : Thread nD τ) 0 W ∗ atPos xchE (cell c k) 0 ∅ 0)
      ⊢ iprop(((owes (c : Thread nD τ) 0 (insert (slot k, ()) W) ∗ semVal (cell c k) 0 ∗ carries m ρ c k)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sm src dst hsrc hdst) kont) Q) := by
  have ha : dst.view.dmaCredit = units k := (credit dst).trans hk.symm
  have hx := plan_expect m ρ c k
  have hr := plan_rest m ρ c k
  have hl := plan_later m ρ (cell c k)
  rw [show cell c k = ((c : Thread nD τ), SemLoc.dma sm) from by unfold cell; rw [hsm]] at hx hr hl ⊢
  rw [hsm]
  iintro ⟨#HI, Hc, HO, Hat⟩ Hk
  iapply (Rounds.wp_wait_rest_token 𝒱₀ xchE (plan m ρ) (c : Thread nD τ) none (κ := K (c, k))
      (wpE_waitDma2_eq 𝒱₀ (c : Thread nD τ) none Set.univ) (Set.mem_univ _) () (O := 0) (W := W) (R := 0) (m := 0) (T := ∅)
      (by rw [Nat.zero_add, hx]; exact ha)) $$ [Hc HO Hat]
  · isplitr; · iexact HI
    isplitl [Hc]; · rw [ha]; iexact Hc
    isplitl [HO]; · iexact HO
    isplitr; · rw [MayWait_zero]; iempintro
    iexact Hat
  iintro ⟨HO, Hat, -, Hpay⟩
  ihave Hp := (Entails.of_eq hr) $$ Hpay
  imod (Rounds.cell_close xchE (plan m ρ) (Set.mem_univ (K (c, k))) (fun h => h) (R := 0 + 1) hl) $$ [Hat] with Hz
  · isplitr; · iexact HI
    iexact Hat
  iapply Hk
  isplitl [HO]; · iexact HO
  isplitl [Hz] <;> iassumption

def bodyPre (c : Dev nD) : sProp 𝕄 :=
  iprop((ghost m ρ K c ∗ promised c ∗ levAts idx rank ∗ spare c)
    ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
def bodyPost (c : Dev nD) : sProp 𝕄 :=
  iprop(atEnd c ∗ (dats m ρ 0 c).owesAt () t0_0.succ ∗ staged c cc0_stg0_0 (rowsOf m ρ c) ∗ staged c cc0_stg1_0 (destOf m ρ c) ∗ staged c cc0_stg2_0 (resultOf m ρ c))

set_option maxHeartbeats 1600000 in
theorem walk (c : Dev nD) (hsends : sendsOf c (destOf m ρ c) = 256#32) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost known places duties promised spare
  iintro ⟨⟨⟨⟨⟨⟨#I0, #I1, #I2, #I3, #I4⟩, ⟨#J0, #J3, #J4⟩, ⟨#R0, #R1, #R2, #R3, #R4⟩⟩, ⟨A0, A1, A2, A3, A4⟩, ⟨T0, T1, T2, T3, T4⟩⟩, ⟨C0, C3, C4⟩, #Hlev, ⟨%f0, Hbuf⟩⟩, Ho, ⟨%d0, %g0, %hg0, Hx⟩, ⟨%d1, %g1, %hg1, Hd⟩, ⟨%d2, %g2, %hg2, Hout⟩⟩, Hk⟩
  have hx : g0 = rowsOf m ρ c := by rw [hg0]; unfold Dat.before; rw [if_pos (fetches0 t0_0)]; rfl
  have hd : g1 = destOf m ρ c := by rw [hg1]; unfold Dat.before; rw [if_pos (fetches1 t0_0)]; rfl
  subst hx hd
  unfold Dat.owesAt Pipeline.owesWithin
  icases Ho with ⟨%W, %hW, HO⟩
  rw [show (dats m ρ 0 c).owed t0_0.castSucc = owesAll c from rfl]
  ihave Hout := (out_split c g2) $$ Hout
  icases Hout with ⟨Hkept, Hrows0, Hrows1⟩
  ihave Hbuf := (buf_split c f0) $$ Hbuf
  icases Hbuf with ⟨Hbuf0, Hbuf1⟩
  -- the signal hands the partner its rows of this result
  simp only [signal_to c]
  iapply (Rounds.wp_signal 𝒱₀ xchE (plan m ρ) (c : Thread nD τ) none (dst := (mate c : Thread nD τ)) (κ := K (mate c, 0))
      (plan_duty m ρ (mate c) 0) ((plan_amount m ρ (mate c) 0 ()).trans (by decide)) () (owesCopies c) rfl)
    $$ [HO T0 Hrows0 Hrows1]
  · isplitr; · iexact J0
    isplitl [HO]; · iexact HO
    isplitl [T0]; · iexact T0
    isplitl [Hrows0 Hrows1]
    · rw [show (plan m ρ).payload ((mate c : Thread nD τ), SemLoc.reg barS) 0 () = granted (mate c) from plan_payload m ρ (mate c) 0 ()]
      unfold granted; rw [mate_mate]
      isplitl [Hrows0]; · iexists g2; iexact Hrows0
      iexists g2; iexact Hrows1
    · iexact R0
  iintro HO
  iapply (wp_load 𝒱₀ (c : Thread nD τ) none Set.univ (m := dM) (Finset.subset_univ _)) $$ Hd; iintro Hd
  rw [load_dest]
  simp only [k0_part2_eq_skeleton, k0_part3_eq_skeleton]; unfold k0_part2_skel k0_part3_skel
  simp only [semWaitWord, Prog.lift, Prog.bind_op, Prog.bind_ret, Prog.pure_eq_ret]
  -- the count of rows to send is 256
  have hv : extractAt ![0, 0, 0] (k0_pay8 (k0_pay2 c (destOf m ρ c))) inpos_S1x1x1_p0_0_0 = 256#32 := hsends
  iapply (wp_assume 𝒱₀ (c : Thread nD τ) none Set.univ (by rw [hv]; exact offsets_ok c))
  simp only [hv]
  iapply (wp_load 𝒱₀ (c : Thread nD τ) none Set.univ (m := xM) (Finset.subset_univ _)) $$ Hx; iintro Hx
  rw [load_rows]
  -- the first half of the rows sent is packed
  unfold bufAt
  iapply (wp_load_rect 𝒱₀ (c : Thread nD τ) none Set.univ (m := sM) (r := partR 0) (Finset.Subset.refl _)) $$ Hbuf0; iintro Hbuf0
  iapply (wp_store 𝒱₀ (c : Thread nD τ) none Set.univ (m := sM) (r := partR 0) (Mk := Finset.univ) (S := (sM.access (partR 0) : View sig .tc _ _ _).set) (Finset.Subset.refl _)) $$ Hbuf0; iintro Hbuf0
  -- the partner's signal brings its rows
  iapply (Rounds.wp_wait_rest_token 𝒱₀ xchE (plan m ρ) (c : Thread nD τ) none (κ := K (c, 0))
      (wpE_semWait_eq 𝒱₀ (c : Thread nD τ) none Set.univ) (Set.mem_univ _) () (O := owesCopies c) (W := W) (R := 0) (m := 0) (T := ∅)
      (by rw [show (plan m ρ).expect ((c : Thread nD τ), SemLoc.reg barS) 0 = units 0 from plan_expect m ρ c 0]; decide)) $$ [C0 HO A0]
  · isplitr; · iexact I0
    isplitl [C0]; · iexact C0
    isplitl [HO]; · iexact HO
    isplitr; · iapply (may_bar c); iexact Hlev
    iexact A0
  iintro ⟨HO, A0, -, Hpay⟩
  ihave Hp := (Entails.of_eq (plan_rest m ρ c 0)) $$ Hpay
  unfold carries granted
  icases Hp with ⟨⟨%e0, He0⟩, ⟨%e1, He1⟩⟩
  simp only [k0_part4_eq_skeleton, k0_part5_eq_skeleton]; unfold k0_part4_skel k0_part5_skel
  simp only [Prog.lift, Prog.bind_op, Prog.bind_ret, Prog.pure_eq_ret, hv]
  -- the first chunk departs
  iapply (depart m ρ K c _ (copy0_to c) 0 f0 e0 (owesCopies c) (tallyAt (cell (mate c) 4) () N) rfl (insert (slot 0, ()) W)) $$ [Hbuf0 He0 HO T1 T3]
  · isplitr; · iexact I1
    isplitr; · iexact J3
    isplitl [Hbuf0]; · unfold bufAt; iexact Hbuf0
    isplitl [He0]; · iexact He0
    isplitl [HO]; · iexact HO
    isplitl [T1]; · iexact T1
    isplitr; · iexact R1
    isplitl [T3]; · iexact T3
    iexact R3
  iintro ⟨C1, HO⟩
  -- the second half is packed, and departs
  iapply (wp_load_rect 𝒱₀ (c : Thread nD τ) none Set.univ (m := sM) (r := partR 1) (Finset.Subset.refl _)) $$ Hbuf1; iintro Hbuf1
  iapply (wp_store 𝒱₀ (c : Thread nD τ) none Set.univ (m := sM) (r := partR 1) (Mk := Finset.univ) (S := (sM.access (partR 1) : View sig .tc _ _ _).set) (Finset.Subset.refl _)) $$ Hbuf1; iintro Hbuf1
  iapply (depart m ρ K c _ (copy1_to c) 1 f0 e1 (tallyAt (cell (mate c) 4) () N) 0 (by rw [zero_add]) (insert (slot 0, ()) W)) $$ [Hbuf1 He1 HO T2 T4]
  · isplitr; · iexact I2
    isplitr; · iexact J4
    isplitl [Hbuf1]; · unfold bufAt; iexact Hbuf1
    isplitl [He1]; · iexact He1
    isplitl [HO]; · iexact HO
    isplitl [T2]; · iexact T2
    isplitr; · iexact R2
    isplitl [T4]; · iexact T4
    iexact R4
  iintro ⟨C2, HO⟩
  -- the rows kept go into this result
  unfold outAt
  iapply (wp_load_rect 𝒱₀ (c : Thread nD τ) none Set.univ (m := oM) (r := keptR c) (Finset.Subset.refl _)) $$ Hkept; iintro Hkept
  iapply (wp_store 𝒱₀ (c : Thread nD τ) none Set.univ (m := oM) (r := keptR c) (Mk := Finset.univ) (S := (oM.access (keptR c) : View sig .tc _ _ _).set) (Finset.Subset.refl _)) $$ Hkept; iintro Hkept
  -- the four waits
  iapply (await m ρ K c 1 (depS 0) rfl rfl (insert (slot 0, ()) W)) $$ [C1 HO A1]
  · isplitr; · iexact I1
    isplitl [C1]; · iexact C1
    isplitl [HO] <;> iassumption
  iintro ⟨HO, Z1, Hbuf0⟩
  iapply (await m ρ K c 3 (arrS 0) rfl rfl (insert (slot 1, ()) (insert (slot 0, ()) W))) $$ [C3 HO A3]
  · isplitr; · iexact I3
    isplitl [C3]; · iexact C3
    isplitl [HO] <;> iassumption
  iintro ⟨HO, Z3, Hrows0⟩
  iapply (await m ρ K c 2 (depS 1) rfl rfl (insert (slot 3, ()) (insert (slot 1, ()) (insert (slot 0, ()) W)))) $$ [C2 HO A2]
  · isplitr; · iexact I2
    isplitl [C2]; · iexact C2
    isplitl [HO] <;> iassumption
  iintro ⟨HO, Z2, Hbuf1⟩
  iapply (await m ρ K c 4 (arrS 1) rfl rfl (insert (slot 2, ()) (insert (slot 3, ()) (insert (slot 1, ()) (insert (slot 0, ()) W))))) $$ [C4 HO A4]
  · isplitr; · iexact I4
    isplitl [C4]; · iexact C4
    isplitl [HO] <;> iassumption
  iintro ⟨HO, Z4, Hrows1⟩
  imod (Rounds.cell_close xchE (plan m ρ) (Set.mem_univ (K (c, 0))) (fun h => h) (R := 0 + 1) (plan_later m ρ (cell c 0))) $$ [A0] with Z0
  · isplitr; · iexact I0
    iexact A0
  unfold carries
  icases Hbuf0 with ⟨%b0, Hbuf0⟩
  icases Hbuf1 with ⟨%b1, Hbuf1⟩
  ihave Hout := (out_join m ρ c g2) $$ [Hkept Hrows0 Hrows1]
  · isplitl [Hkept]; · unfold outAt; iexact Hkept
    isplitl [Hrows0] <;> iassumption
  ihave Hbuf := (buf_join c b0 b1) $$ [Hbuf0 Hbuf1]
  · isplitl [Hbuf0] <;> iassumption
  rw [wp_ret]; imodintro
  iapply Hk
  unfold bodyPost atEnd spare Dat.owesAt Pipeline.owesWithin
  rw [show (dats m ρ 0 c).owed t0_0.succ = 0 from rfl]
  isplitl [Hbuf Z0 Z1 Z2 Z3 Z4]
  · isplitl [Hbuf]; · iexact Hbuf
    isplitl [Z0]; · iexact Z0
    isplitl [Z1]; · iexact Z1
    isplitl [Z2]; · iexact Z2
    isplitl [Z3] <;> iassumption
  isplitl [HO]
  · iexists (insert (slot 4, ()) (insert (slot 2, ()) (insert (slot 3, ()) (insert (slot 1, ()) (insert (slot 0, ()) W)))))
    isplitr
    · ipureintro; exact fun _ _ => Or.inl trivial
    iexact HO
  isplitl [Hx]
  · iexists _
    isplitr
    · ipureintro; rfl
    iexact Hx
  isplitl [Hd]
  · iexists _
    isplitr
    · ipureintro; rfl
    iexact Hd
  iexists _
  isplitr
  · ipureintro; rfl
  iexact Hout

end Cert.Swap

end
-- ==== Proof.Run.lean ====
/-
# The launch and the run

The thirty-two kernels are launched together: every cell of the exchange is funded once, each device keeps its places
and receives the payments it has to make at its partner's cells, and the run ends with every semaphore at zero and every
device's result holding the rows it kept and the rows its partner sent.
-/
module

public import proofs.«01_k».proof.Proof.Body
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Alg ℕ

variable (m : (ℓ : Loc nD τ sig) → Buf (Elt F) ℓ) (ρ : Dev nD → PrngReg)

/-! ## The body at its one grid point -/

def bodyStart (c : Dev nD) : sProp 𝕄 :=
  iprop(atStart m ρ c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))

set_option maxRecDepth 4000 in
theorem body_obligation (hs : ∀ c, sendsOf c (destOf m ρ c) = 256#32) (c : Dev nD) :
    BodyObligation (dats (F := F) m ρ 0 c) (defs₀ (F := F)) 𝒱₀ () Set.univ := fun t => by
  rw [fin_N0 t]
  rw [bigSep_W0, bigSep_W0]
  simp only [staged_eq]
  show bodyStart m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m ρ c)
  unfold bodyStart atStart start
  iintro ⟨⟨⟨⟨%K, Hg⟩, Hp, Hl⟩, Hs⟩, Ho, Hx, Hd, Hout⟩
  iapply (walk m ρ K c (hs c) fun _ => bodyPost m ρ c)
  unfold bodyPre
  isplitr []
  · isplitl [Hg Hp Hl Hs]
    · isplitl [Hg]; · iexact Hg
      isplitl [Hp]; · iexact Hp
      isplitl [Hl] <;> iassumption
    isplitl [Ho]; · iexact Ho
    isplitl [Hx]; · iexact Hx
    isplitl [Hd] <;> iassumption
  · iintro H; iexact H

/-! ## What the launch deals -/

theorem ownSemFacts : Pipeline.OwnSemFacts cfg0.spec own := by decide

theorem share_full (c : Dev nD) (w : Fin cfg0.W) : (dats m ρ 0 c).share w = fullShare := by unfold Dat.share; split <;> rfl

/-- A cell by its device and slot. -/
def cellAt (p : Dev nD × Fin 5) : GSem nD τ sig := cell p.1 p.2
theorem cellAt_injective : Function.Injective cellAt := fun p q h => by
  obtain ⟨h1, h2⟩ := cell_eq_iff.mp (show cell p.1 p.2 = cell q.1 q.2 from h)
  exact Prod.ext h1 h2

def allCells : Finset (GSem nD τ sig) := Finset.univ.map ⟨cellAt, cellAt_injective⟩
def allDuties : Finset (GSem nD τ sig × ℕ × Unit) :=
  Finset.univ.map ⟨fun p : Dev nD × Fin 5 => (cellAt p, 0, ()), fun _ _ h => cellAt_injective (congrArg Prod.fst h)⟩

def u₀ : Alg := (initOf (Pipeline.cells cfgs cellOf_inj) (Pipeline.launchToks cfgs cellOf_inj), initOf allCells allDuties)

/-- The payments into a device's own cells, before they are handed to the devices that make them. -/
def minted (c : Dev nD) : sProp 𝕄 := bigSep Finset.univ fun k : Fin 5 => dutyTok xchE (cellAt (c, k)) 0 ()

/-- A device's part of the launch, before and after the cells are shared. -/
def dealt (c : Dev nD) : sProp 𝕄 :=
  iprop((bigSep Finset.univ fun k : Fin 5 => roundState xchE (plan m ρ) (cellAt (c, k)) 0)
    ∗ (bigSep Finset.univ fun k : Fin 5 => iprop(atPos xchE (cellAt (c, k)) 0 ∅ 0 ∗ reached xchE (cellAt (c, k)) 0)) ∗ minted c)
def ready (c : Dev nD) : sProp 𝕄 := iprop(∃ K, ghost m ρ K c)

omit [FloatOps F] in
theorem bigSep_slots (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_cells : BI.own (xchE (initOf allCells allDuties)) ⊢ (|==> bigSep Finset.univ (dealt m ρ) : sProp 𝕄) := by
  have hX (Φ : GSem nD τ sig → sProp 𝕄) : bigSep allCells Φ = bigSep Finset.univ fun c : Dev nD => bigSep Finset.univ fun k : Fin 5 => Φ (cellAt (c, k)) := by
    unfold allCells; rw [bigSep_map, bigSep_univ_prod]; rfl
  have hT : bigSep allDuties (fun x => (dutyTok xchE x.1 x.2.1 x.2.2 : sProp 𝕄)) = bigSep Finset.univ fun c : Dev nD => minted c := by
    unfold allDuties; rw [bigSep_map, bigSep_univ_prod]; rfl
  iintro HX
  imod (Rounds.fund xchE (plan m ρ) allCells allDuties) $$ HX with ⟨Hst, Hr, Hat, Htok⟩
  imodintro
  ihave Hst' := (Entails.of_eq (hX fun g => roundState xchE (plan m ρ) g 0)) $$ Hst
  ihave Hat' := (Entails.of_eq (hX fun g => atPos xchE g 0 ∅ 0)) $$ Hat
  ihave Hr' := (Entails.of_eq (hX fun g => reached xchE g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem own_sems (c : Dev nD) : (Pipeline.ownSems0 (Ix := Unit) (Name := ℕ) (U := Alg) (Lvl := ℕ) (Val := Elt F) (τ := τ) own c : sProp 𝕄)
    = iprop(semVal (cell c 1) 0 ∗ semVal (cell c 2) 0 ∗ semVal (cell c 3) 0 ∗ semVal (cell c 4) 0) := by
  rw [Pipeline.ownSems0_eq_of_list c own [0, 1, 2, 3] (by decide) (by decide)]; rfl
omit [FloatOps F] in
theorem barrier_sem (c : Dev nD) : (unscopedSems0 c : sProp 𝕄) = semVal (cell c 0) 0 := by
  unfold unscopedSems0; rw [bigSep_eq_bigSepL_of_eq [SemLoc.reg barS] (by decide) (by decide)]; rfl

omit [FloatOps F] in
theorem all_sems (c : Dev nD) :
    iprop(Pipeline.ownSems0 (Ix := Unit) (Name := ℕ) (U := Alg) (Lvl := ℕ) (Val := Elt F) (τ := τ) own c ∗ unscopedSems0 c)
      ⊢ (bigSep Finset.univ fun k : Fin 5 => semVal (cellAt (c, k)) 0 : sProp 𝕄) := by
  rw [own_sems, barrier_sem, bigSep_slots]
  iintro ⟨Ho, Hb⟩
  isplitl [Hb]; · iexact Hb
  iexact Ho

/-- A device's cells become shared. -/
theorem share_cells (c : Dev nD) :
    iprop(Pipeline.ownSems0 (Ix := Unit) (Name := ℕ) (U := Alg) (Lvl := ℕ) (Val := Elt F) (τ := τ) own c ∗ unscopedSems0 c ∗ dealt m ρ c)
      ⊢ |={Set.univ}=> iprop((bigSep Finset.univ fun k => iprop(∃ κ : ℕ, cellInv xchE (plan m ρ) κ (cellAt (c, k))))
          ∗ (bigSep Finset.univ fun k => iprop(atPos xchE (cellAt (c, k)) 0 ∅ 0 ∗ reached xchE (cellAt (c, k)) 0)) ∗ minted c) := by
  unfold dealt
  iintro ⟨Hos, Hus, Hst, Hat, Htok⟩
  ihave Hv := (all_sems (F := F) c) $$ [Hos Hus]
  · isplitl [Hos] <;> iassumption
  imod (show iprop((bigSep Finset.univ fun k : Fin 5 => semVal (cellAt (c, k)) 0) ∗ bigSep Finset.univ fun k : Fin 5 => roundState xchE (plan m ρ) (cellAt (c, k)) 0)
      ⊢ (|={Set.univ}=> bigSep Finset.univ fun k => iprop(∃ κ : ℕ, cellInv xchE (plan m ρ) κ (cellAt (c, k))) : sProp 𝕄) from by
        rw [← bigSep_sep']
        exact (bigSep_mono fun k _ => (Rounds.body_intro xchE (plan m ρ) (cellAt (c, k))).trans inv_alloc).trans (bigSep_fupd _ _)) $$ [Hv Hst] with Hinv
  · isplitl [Hv] <;> iassumption
  imodintro
  isplitl [Hinv]; · iexact Hinv
  isplitl [Hat] <;> iassumption

/-- Every cell's invariant, and that its round is reached. -/
def records (K : Dev nD × Fin 5 → ℕ) : sProp 𝕄 :=
  iprop((bigSep Finset.univ fun p : Dev nD × Fin 5 => cellInv xchE (plan m ρ) (K p) (cellAt p))
    ∗ bigSep Finset.univ fun p : Dev nD × Fin 5 => reached xchE (cellAt p) 0)

instance records_persistent (K : Dev nD × Fin 5 → ℕ) : BI.Persistent (records m ρ K) := by unfold records; infer_instance

theorem record_inv (K : Dev nD × Fin 5 → ℕ) (c : Dev nD) (k : Fin 5) : records m ρ K ⊢ cellInv xchE (plan m ρ) (K (c, k)) (cell c k) := by
  unfold records
  exact sep_elim_left.trans (bigSep_elim (Φ := fun p : Dev nD × Fin 5 => (cellInv xchE (plan m ρ) (K p) (cellAt p) : sProp 𝕄)) (Finset.mem_univ (c, k)))
theorem record_reached (K : Dev nD × Fin 5 → ℕ) (c : Dev nD) (k : Fin 5) : records m ρ K ⊢ reached xchE (cell c k) 0 := by
  unfold records
  exact sep_elim_right.trans (bigSep_elim (Φ := fun p : Dev nD × Fin 5 => (reached xchE (cellAt p) 0 : sProp 𝕄)) (Finset.mem_univ (c, k)))

theorem record_known (K : Dev nD × Fin 5 → ℕ) (c : Dev nD) : records m ρ K ⊢ known m ρ K c := by
  unfold known
  iintro #H
  isplitr
  · isplitr; · iapply (record_inv m ρ K c 0); iexact H
    isplitr; · iapply (record_inv m ρ K c 1); iexact H
    isplitr; · iapply (record_inv m ρ K c 2); iexact H
    isplitr; · iapply (record_inv m ρ K c 3); iexact H
    iapply (record_inv m ρ K c 4); iexact H
  isplitr
  · isplitr; · iapply (record_inv m ρ K (mate c) 0); iexact H
    isplitr; · iapply (record_inv m ρ K (mate c) 3); iexact H
    iapply (record_inv m ρ K (mate c) 4); iexact H
  isplitr; · iapply (record_reached m ρ K (mate c) 0); iexact H
  isplitr; · iapply (record_reached m ρ K c 1); iexact H
  isplitr; · iapply (record_reached m ρ K c 2); iexact H
  isplitr; · iapply (record_reached m ρ K (mate c) 3); iexact H
  iapply (record_reached m ρ K (mate c) 4); iexact H

theorem record_ready (K : Dev nD × Fin 5 → ℕ) (c : Dev nD) : iprop(records m ρ K ∗ places c ∗ duties c) ⊢ ready m ρ c := by
  unfold ready ghost
  iintro ⟨#H, Hp, Hd⟩
  iexists K
  isplitr; · iapply (record_known m ρ K c); iexact H
  isplitl [Hp] <;> iassumption

omit [FloatOps F] in
/-- The payments go to the devices that make them: the barrier's and the arrivals' to the partner. -/
theorem deal_duties : (bigSep Finset.univ fun c : Dev nD => (minted c : sProp 𝕄)) ⊢ bigSep Finset.univ fun c : Dev nD => duties c := by
  have hm (c : Dev nD) : (minted c : sProp 𝕄) = iprop(dutyTok xchE (cell c 0) 0 () ∗ dutyTok xchE (cell c 1) 0 () ∗ dutyTok xchE (cell c 2) 0 ()
      ∗ dutyTok xchE (cell c 3) 0 () ∗ dutyTok xchE (cell c 4) 0 ()) := by
    unfold minted; rw [bigSep_slots]; rfl
  rw [bigSep_congr (s := Finset.univ) fun c _ => hm c]
  unfold duties
  simp only [bigSep_sep']
  rw [bigSep_univ_equiv mates (fun c : Dev nD => (dutyTok xchE (cell c 0) 0 () : sProp 𝕄)),
    bigSep_univ_equiv mates (fun c : Dev nD => (dutyTok xchE (cell c 3) 0 () : sProp 𝕄)),
    bigSep_univ_equiv mates (fun c : Dev nD => (dutyTok xchE (cell c 4) 0 () : sProp 𝕄))]
  exact BIBase.Entails.rfl

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv xchE (plan m ρ) κ (cellAt (c, k))))
          ∗ (bigSep Finset.univ fun k => iprop(atPos xchE (cellAt (c, k)) 0 ∅ 0 ∗ reached xchE (cellAt (c, k)) 0)) ∗ minted c) : sProp 𝕄)
      ⊢ bigSep Finset.univ (ready m ρ) := by
  rw [bigSep_sep', bigSep_sep', ← bigSep_univ_prod (fun p : Dev nD × Fin 5 => iprop(∃ κ : ℕ, cellInv xchE (plan m ρ) κ (cellAt p))),
    bigSep_congr (s := Finset.univ) (fun (c : Dev nD) _ => bigSep_sep' Finset.univ (fun k : Fin 5 => (atPos xchE (cellAt (c, k)) 0 ∅ 0 : sProp 𝕄)) (fun k => reached xchE (cellAt (c, k)) 0)),
    bigSep_sep', ← bigSep_univ_prod (fun p : Dev nD × Fin 5 => (reached xchE (cellAt p) 0 : sProp 𝕄))]
  iintro ⟨HI, ⟨Hat, #HR⟩, Htok⟩
  ihave HK := (BI.bigSep_exists_pi Finset.univ (fun (p : Dev nD × Fin 5) (κ : ℕ) => (cellInv xchE (plan m ρ) κ (cellAt p) : sProp 𝕄))) $$ HI
  icases HK with ⟨%K, #HI⟩
  ihave Htk := (deal_duties (F := F)) $$ Htok
  iapply (spread (R := records m ρ K) fun c _ => record_ready m ρ K c)
  isplitr
  · unfold records; isplitl; · iexact HI
    iexact HR
  · rw [bigSep_sep']
    isplitl [Hat]
    · iapply (Entails.of_eq (bigSep_congr (s := Finset.univ) fun (c : Dev nD) _ =>
        show (bigSep Finset.univ fun k : Fin 5 => (atPos xchE (cellAt (c, k)) 0 ∅ 0 : sProp 𝕄)) = places c from by unfold places; rw [bigSep_slots]; rfl))
      iexact Hat
    · iexact Htk

theorem deal_all : (bigSep Finset.univ fun c => iprop(Pipeline.ownSems0 (Ix := Unit) (Name := ℕ) (U := Alg) (Lvl := ℕ) (Val := Elt F) (τ := τ) own c ∗ unscopedSems0 c ∗ dealt m ρ c) : sProp 𝕄)
    ⊢ |={Set.univ}=> bigSep Finset.univ (ready m ρ) :=
  ((bigSep_mono fun c _ => share_cells m ρ c).trans (bigSep_fupd _ _)).trans (BI.fupd_mono (regroup m ρ))

/-! ## The credit each device is promised -/

omit [FloatOps F] in
/-- What device `d` owes slot `k` of device `c`. -/
theorem owed_at (d c : Dev nD) (k : Fin 5) :
    owesAll d (cell c k) () = if d = mate c then (if k = 4 then N else 0) + (if k = 3 then N else 0) + (if k = 0 then 1 else 0) else 0 := by
  unfold owesAll owesCopies
  rw [Pi.add_apply, Finsupp.add_apply, Pi.add_apply, Finsupp.add_apply, tallyAt_apply, tallyAt_apply, tallyAt_apply]
  have e (k' : Fin 5) (n : ℕ) : (if cell c k = cell (mate d) k' ∧ () = () then n else 0) = if d = mate c ∧ k = k' then n else 0 := by
    refine if_congr ⟨fun h => ?_, fun h => ⟨cell_eq_iff.mpr ⟨by rw [h.1, mate_mate], h.2⟩, rfl⟩⟩ rfl rfl
    obtain ⟨h1, h2⟩ := cell_eq_iff.mp h.1
    exact ⟨by rw [h1, mate_mate], h2⟩
  rw [e 4, e 3, e 0]
  by_cases h : d = mate c
  · simp only [h, true_and, if_true]
  · simp only [h, _root_.false_and, if_false]

omit [FloatOps F] in
theorem promised_at (c : Dev nD) (k : Fin 5) (n : ℕ) (hn : (if k = 4 then N else 0) + (if k = 3 then N else 0) + (if k = 0 then 1 else 0) = n) :
    tallyOn (cell c k) (launchCredit (Pipeline.owing owesAll) 0 (cell c k)) = (tallyAt (cell c k) () n : CellTallies nD τ sig Unit) := by
  unfold tallyAt; refine congrArg _ (Finsupp.ext fun u => ?_); cases u
  rw [Pipeline.launchCredit_owing, Finsupp.single_eq_same, Finset.sum_congr rfl fun d _ => owed_at d c k,
    Finset.sum_ite_eq' Finset.univ (mate c) fun _ => _, if_pos (Finset.mem_univ _), hn]

omit [FloatOps F] in
theorem credits (c : Dev nD) : (Pipeline.launchCred owesAll c : sProp 𝕄) ⊢ promised c := by
  unfold Pipeline.launchCred promised
  rw [bigSep_univ_at _ (slot 0), ← promised_at c 0 1 (by decide), ← promised_at c 3 N (by decide), ← promised_at c 4 N (by decide)]
  refine sep_mono_right ?_
  rw [BI.bigSep_erase (i := slot 3) (Finset.mem_erase.mpr ⟨by decide, Finset.mem_univ _⟩)]
  refine sep_mono_right ?_
  exact bigSep_elim (Finset.mem_erase.mpr ⟨by decide, Finset.mem_erase.mpr ⟨by decide, Finset.mem_univ _⟩⟩)

/-! ## Entering and leaving -/

theorem enter (c : Dev nD) :
    iprop(Pipeline.unscopedRestP Pipeline.Prefetch.none cfg0.spec c (fun b => m ((c : Thread nD τ).loc b)) ∗ levAts idx rank
        ∗ Pipeline.launchCred owesAll c ∗ prngReg c (ρ c) ∗ ready m ρ c)
      ⊢ |={Set.univ}=> iprop(start m ρ c ∗ emp) := by
  iintro ⟨-, Hlev, Hcr, -, HG⟩
  ihave Hc := (credits (F := F) c) $$ Hcr
  imodintro
  unfold start ready
  isplitl
  · isplitl [HG]; · iexact HG
    isplitl [Hc] <;> iassumption
  · iempintro

theorem enter_body (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m ρ c from rfl, scopedRest0_eq]
  unfold atStart spare
  iintro ⟨Hs, -, Hr⟩
  isplitl [Hs] <;> iassumption

theorem leave_body (c : Dev nD) :
    (dats m ρ 0 c).Φ (Fin.last cfg0.N) ⊢ iprop(unscopedSems0 c ∗ Pipeline.ownSems0 own c ∗ Pipeline.scopedRest cfg0.spec c) := by
  rw [show (dats m ρ 0 c).Φ (Fin.last cfg0.N) = atEnd c from rfl, scopedRest0_eq, own_sems, barrier_sem]
  unfold atEnd spare
  iintro ⟨Hr, Hb, Ho⟩
  isplitl [Hb]; · iexact Hb
  isplitl [Ho] <;> iassumption

theorem may_all (c : Dev nD) : (levAts idx rank : sProp 𝕄) ⊢ Pipeline.cellsWaits cfgs (dats m ρ) () 0 c :=
  Pipeline.cellsWaits_intro cfgs (dats m ρ) () 0 c fun w s t =>
    may_stage c _ (by fin_cases w <;> fin_cases s <;> decide) _ (by
      rcases t with ⟨_ | _, ht⟩
      · exact Or.inl rfl
      · exact Or.inr rfl)

/-! ## The run -/

/-- The array of a window after the run. -/
def final (c : Dev nD) (w : Fin cfg0.W) : Buf (Elt F) ((cfg0.win w).arr.view.loc (c : Thread nD τ)) := (dats m ρ 0 c).arrAt w cfg0.N

def finished : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- If every device has 256 rows to send, every run from a memory with zero counters ends, with each window's array as
    computed and every counter at zero. -/
theorem run_main (hs : ∀ c, sendsOf c (destOf m ρ c) = 256#32) :
    θ_run defs (onTc (τ := τ) (main (F := F))) (σ₀ m ρ) (fun r => finished m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) stgE defs₀ 𝒱₀ m ρ main
    (hmain := fun _ => rfl)
    (hbody := body_obligation m ρ hs) (hne := block_pos0) (harr := arr_whole0) (hstage := stage_whole0) (hshare := share_full m ρ)
    (hdistinct := winFacts0.arr_inj)
    (O₀ := owesAll) (howed₀ := fun _ => rfl) (howedN := fun _ => rfl)
    (L := idx) (lv := rank) (hL := idx_other) (hwaits := may_all m ρ)
    (G := dealt m ρ) (G' := ready m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := deal_all m ρ)
    (hA := fun _ _ => rfl) (hpf := fun _ k => k.elim0)
    (X := start m ρ) (Y := fun c => unscopedSems0 c) (Z := fun _ => iprop(emp))
    (hX := enter m ρ) (hin := enter_body m ρ) (hout := leave_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_rows (c : Dev nD) : final m ρ c (0 : Fin 3) = (σ₀ m ρ).mem (win0_0.arr.view.loc (c : Thread nD τ)) :=
  (dats (F := F) m ρ 0 c).arrAt_in (0 : Fin 3) rfl _
theorem final_dest (c : Dev nD) : final m ρ c (1 : Fin 3) = (σ₀ m ρ).mem (win0_1.arr.view.loc (c : Thread nD τ)) :=
  (dats (F := F) m ρ 0 c).arrAt_in (1 : Fin 3) rfl _

end Cert.Swap

end
-- ==== Proof.Count.lean ====
/-
# Counting the rows

On each device a row is sent when its destination is not the device's own half of the mesh. The kernel counts the rows
sent up to each position by nine doubling steps, and in all; under the precondition there are 256 of them.
-/
module

public import proofs.«01_k».proof.Proof.Run
public import proofs.«01_k».proof.Pre_balanced_Kernel
public import proofs.«01_k».proof.Proof.Gen.Pre_balanced_Kernel
public import Idealize.ShloMosaic.Lib.Pointwise
public import Idealize.ShloMosaic.Lib.IndicatorCount
public import Idealize.ShloMosaic.Lib.ReduceAll

@[expose] public section

noncomputable section

namespace Cert.Swap

open Cert.KernelIdeal Cert.KernelIdeal.Gen
open Idealize.ShloMosaic Idealize.ShloMosaic.TcCoe Idealize.SL.Sem
open Idealize.ShloMosaic.Pipeline (Dat)

variable {F : FTy → Type} [FloatOps F]

/-! ## Counts over the 512 positions -/

/-- How many positions satisfy `p`. -/
def total (p : Fin 512 → Bool) : ℕ := (Finset.univ.filter fun i => p i = true).card
/-- How many positions before `j` satisfy `p`. -/
def before (p : Fin 512 → Bool) (j : Fin 512) : ℕ := (Finset.univ.filter fun i => p i = true ∧ i < j).card
/-- How many of the `s` positions that end with `j` satisfy `p`. -/
def window (p : Fin 512 → Bool) (s : ℕ) (j : Fin 512) : ℕ :=
  (Finset.univ.filter fun i : Fin 512 => p i = true ∧ i.val ≤ j.val ∧ j.val < i.val + s).card

theorem total_le (p : Fin 512 → Bool) : total p ≤ 512 := (Finset.card_filter_le _ _).trans (by simp)
theorem before_lt (p : Fin 512 → Bool) (j : Fin 512) : before p j ≤ j.val := by
  refine (Finset.card_le_card fun i hi => Finset.mem_Iio.mpr (Finset.mem_filter.mp hi).2.2).trans ?_
  simp

theorem window_one (p : Fin 512 → Bool) (j : Fin 512) : window p 1 j = if p j = true then 1 else 0 := by
  unfold window
  split
  · rename_i h
    rw [Finset.card_eq_one]
    refine ⟨j, Finset.ext fun i => ?_⟩
    rw [Finset.mem_filter, Finset.mem_singleton]
    constructor
    · rintro ⟨-, -, h1, h2⟩; exact Fin.ext (by omega)
    · rintro rfl; exact ⟨Finset.mem_univ _, h, by omega, by omega⟩
  · rename_i h
    rw [Finset.card_eq_zero]
    refine Finset.filter_eq_empty_iff.mpr fun i _ hi => h ?_
    rw [show j = i from Fin.ext (by omega)]; exact hi.1

/-- Two windows side by side. -/
theorem window_double (p : Fin 512 → Bool) (s : ℕ) (j i : Fin 512) (hi : i.val + s = j.val) :
    window p (2 * s) j = window p s j + window p s i := by
  unfold window
  rw [← Finset.card_union_of_disjoint]
  · congr 1; ext l
    simp only [Finset.mem_filter, Finset.mem_union, Finset.mem_univ, true_and]
    constructor
    · rintro ⟨h, h1, h2⟩
      by_cases hl : j.val < l.val + s
      · exact Or.inl ⟨h, h1, hl⟩
      · exact Or.inr ⟨h, by omega, by omega⟩
    · rintro (⟨h, h1, h2⟩ | ⟨h, h1, h2⟩) <;> exact ⟨h, by omega, by omega⟩
  · refine Finset.disjoint_left.mpr fun l h h' => ?_
    have h1 := (Finset.mem_filter.mp h).2; have h2 := (Finset.mem_filter.mp h').2
    omega
/-- A window that already begins at the first position. -/
theorem window_full (p : Fin 512 → Bool) (s : ℕ) (j : Fin 512) (hj : j.val < s) : window p (2 * s) j = window p s j := by
  unfold window; congr 1; ext l
  simp only [Finset.mem_filter, Finset.mem_univ, true_and]
  constructor <;> rintro ⟨h, h1, h2⟩ <;> exact ⟨h, by omega, by omega⟩

theorem window_all (p : Fin 512 → Bool) (j : Fin 512) : window p 512 j = before p j + if p j = true then 1 else 0 := by
  rw [← window_one]; unfold window before
  rw [← Finset.card_union_of_disjoint]
  · congr 1; ext l
    simp only [Finset.mem_filter, Finset.mem_union, Finset.mem_univ, true_and]
    constructor
    · rintro ⟨h, h1, h2⟩
      by_cases hl : l < j
      · exact Or.inl ⟨h, hl⟩
      · exact Or.inr ⟨h, by omega, by omega⟩
    · rintro (⟨h, h1⟩ | ⟨h, h1, h2⟩)
      · exact ⟨h, by omega, by omega⟩
      · exact ⟨h, by omega, by omega⟩
  · refine Finset.disjoint_left.mpr fun l h h' => ?_
    have h1 := (Finset.mem_filter.mp h).2; have h2 := (Finset.mem_filter.mp h').2
    omega

/-- The positions before `j` that satisfy `p`, and those that do not. -/
theorem before_not (p : Fin 512 → Bool) (j : Fin 512) : before p j + before (fun i => !p i) j = j.val := by
  have h : before p j + before (fun i => !p i) j = (Finset.univ.filter fun i : Fin 512 => i < j).card := by
    unfold before
    rw [← Finset.card_union_of_disjoint]
    · congr 1; ext l
      simp only [Finset.mem_filter, Finset.mem_union, Finset.mem_univ, true_and]
      cases p l <;> simp
    · refine Finset.disjoint_left.mpr fun l h h' => ?_
      have h1 := (Finset.mem_filter.mp h).2; have h2 := (Finset.mem_filter.mp h').2
      have h3 : (!p l) = true := h2.1
      rw [h1.1] at h3; exact absurd h3 (by decide)
  rw [h, show (Finset.univ.filter fun i : Fin 512 => i < j) = Finset.Iio j from by ext; simp]
  simp

theorem total_not (p : Fin 512 → Bool) : total p + total (fun i => !p i) = 512 := by
  have h := Finset.card_filter_add_card_filter_not (s := (Finset.univ : Finset (Fin 512))) (fun i => p i = true)
  rw [Finset.card_univ, Fintype.card_fin] at h
  unfold total
  simpa using h

/-! ## The mask -/

/-- Whether the row at position `j` is sent: its destination is not the device's half. -/
def away (c : Dev nD) (d : Vec F S1x512 .i32) (j : Fin 512) : Bool := d (ix2 0 j) != BitVec.ofNat 32 (c.val / 16)

theorem half_word (c : Dev nD) : Scalar.remsi (Scalar.divsi (Dev.word c) 16#32) 2#32 = BitVec.ofNat 32 (c.val / 16) := by
  revert c; decide +kernel

theorem mask_at (c : Dev nD) (d : Vec F S1x512 .i32) (j : Fin 512) : k0_pay1 c d (ix2 0 j) = BitVec.ofBool (away c d j) := by
  pointwise [k0_pay1]
  rw [half_word]; rfl

theorem mask_word (c : Dev nD) (d : Vec F S1x512 .i32) (j : Fin 512) : k0_pay2 c d (ix2 0 j) = (BitVec.ofBool (away c d j)).setWidth 32 := by
  rw [← mask_at]
  pointwise [k0_pay2]

/-! ## The running count -/

theorem sge_nat (a b : ℕ) (ha : a < 1024) (hb : b < 1024) :
    IntOp.cmpi .sge (BitVec.ofNat 32 a) (BitVec.ofNat 32 b) = BitVec.ofBool (decide (b ≤ a)) := by
  have e (n : ℕ) (hn : n < 1024) : (BitVec.ofNat 32 n).toInt = n := by
    rw [BitVec.toInt_eq_toNat_of_lt (by rw [BitVec.toNat_ofNat]; omega), BitVec.toNat_ofNat]; omega
  show BitVec.ofBool ((BitVec.ofNat 32 b).sle (BitVec.ofNat 32 a)) = _
  rw [BitVec.sle_eq_decide, e a ha, e b hb]
  simp

/-- Positions counted as pairs of a row number 0 and a position. -/
theorem card_pairs (p : Fin 512 → Bool) :
    (Finset.univ.filter fun x : Fin 1 × Fin 512 => BitVec.ofBool (p x.2) = 1#1).card = total p := by
  refine Finset.card_bij (fun x _ => x.2) (fun x hx => ?_) (fun x _ y _ h => ?_) fun j hj => ⟨(0, j), ?_, rfl⟩
  · have h := (Finset.mem_filter.mp hx).2
    refine Finset.mem_filter.mpr ⟨Finset.mem_univ _, ?_⟩
    revert h; cases p x.2 <;> decide
  · exact Prod.ext (Subsingleton.elim _ _) h
  · refine Finset.mem_filter.mpr ⟨Finset.mem_univ _, ?_⟩
    have h := (Finset.mem_filter.mp hj).2
    show BitVec.ofBool (p j) = 1#1
    rw [h]; rfl

/-- One doubling step: shifted by `s` positions and added, window counts of size `s` become those of size `2 s`. -/
theorem step_at (p : Fin 512 → Bool) (s : ℕ) (n : BitVec 32) (hn : n = BitVec.ofNat 32 s) (hs : s ≤ 256) (v : IVec S1x512 32)
    (hv : ∀ j : Fin 512, v (ix2 0 j) = BitVec.ofNat 32 (window p s j)) (j : Fin 512) :
    addi v (select (cmpi .sge (iota .tc S1x512 32 [1] iota_S1x512_d1_w32) (broadcast S1x512 n))
      (dynamicRotate 1 n none v rotates_S1x512_d1) (broadcast S1x512 0#32)) (ix2 0 j) = BitVec.ofNat 32 (window p (2 * s) j) := by
  subst hn
  have hm : (BitVec.ofNat 32 s).toNat = s := by rw [BitVec.toNat_ofNat]; omega
  pointwise []
  rw [sge_nat j.val s (by omega) (by omega), hm, hv, hv]
  by_cases h : s ≤ j.val
  · have hi : (j.val + 512 - s % 512) % 512 = j.val - s := by omega
    rw [decide_eq_true h, window_double p s j ⟨(j.val + 512 - s % 512) % 512, Nat.mod_lt _ (by decide)⟩ (by show _ % 512 + s = _; omega)]
    show _ + Scalar.select 1#1 _ _ = _
    rw [ValueIdx.select_one, ← BitVec.ofNat_add]
  · rw [decide_eq_false h, window_full p s j (by omega)]
    show _ + Scalar.select 0#1 _ _ = _
    rw [ValueIdx.select_zero]
    exact BitVec.add_zero _

/-- The kernel's running count: at each position, the rows sent up to and including it. -/
theorem counts_at (c : Dev nD) (d : Vec F S1x512 .i32) (j : Fin 512) :
    countsOf c d (ix2 0 j) = BitVec.ofNat 32 (window (away c d) 512 j) := by
  have h1 : ∀ j : Fin 512, k0_pay2 c d (ix2 0 j) = BitVec.ofNat 32 (window (away c d) 1 j) := fun j => by
    rw [mask_word, window_one]; cases away c d j <;> rfl
  have h2 := step_at (away c d) 1 1#32 rfl (by decide) _ h1
  have h4 := step_at (away c d) 2 2#32 rfl (by decide) _ h2
  have h8 := step_at (away c d) 4 4#32 rfl (by decide) _ h4
  have h16 := step_at (away c d) 8 8#32 rfl (by decide) _ h8
  have h32 := step_at (away c d) 16 16#32 rfl (by decide) _ h16
  have h64 := step_at (away c d) 32 32#32 rfl (by decide) _ h32
  have h128 := step_at (away c d) 64 64#32 rfl (by decide) _ h64
  have h256 := step_at (away c d) 128 128#32 rfl (by decide) _ h128
  exact step_at (away c d) 256 256#32 rfl (by decide) _ h256 j

/-- The rows sent in all. -/
theorem sends_eq (c : Dev nD) (d : Vec F S1x512 .i32) : sendsOf c d = BitVec.ofNat 32 (total (away c d)) := by
  unfold sendsOf
  pointwise [k0_pay8]
  rw [Finset.fold_congr (g := fun x : Fin 1 × Fin 512 => (BitVec.ofBool (away c d x.2)).setWidth 32) fun x _ => mask_word c d x.2,
    IndicatorCount.fold_addi_setWidth_eq_card, card_pairs]

/-! ## The precondition -/

/-- The positions with destination 1. -/
def ones (d : Vec F S1x512 .i32) (j : Fin 512) : Bool := d (ix2 0 j) == 1#32

omit [FloatOps F] in
/-- When a conjunction over a set is 1, every bit of it is. -/
theorem all_of_fold {I : Type} [DecidableEq I] (f : I → BitVec 1) (S : Finset I) (h : S.fold IntOp.andi 1#1 f = 1#1) (i : I) (hi : i ∈ S) :
    f i = 1#1 := by
  induction S using Finset.induction_on with
  | empty => exact absurd hi (Finset.notMem_empty _)
  | insert a S ha ih =>
    rw [Finset.fold_insert ha] at h
    have e : f a = 1#1 ∧ S.fold IntOp.andi 1#1 f = 1#1 := by
      revert h; generalize f a = u; generalize S.fold IntOp.andi 1#1 f = v; revert u v; decide
    rcases Finset.mem_insert.mp hi with rfl | hi
    · exact e.1
    · exact ih e.2 hi

/-- Under the precondition every destination is 0 or 1, and 256 of them are 1. -/
theorem balanced_bits (x : FVec F S512x256 .bf16) (d : IVec S1x512 32) (h : Cert.Pre_balanced_Kernel.fn (F := F) x d = fun _ => 1#1) :
    (∀ j : Fin 512, d (ix2 0 j) = 0#32 ∨ d (ix2 0 j) = 1#32) ∧ total (ones (F := F) d) = 256 := by
  have h' := congrFun h ix0
  clear h
  revert h'
  pointwise [Cert.Pre_balanced_Kernel.fn]
  intro h
  have split_and : ∀ u v : BitVec 1, IntOp.andi u v = 1#1 → u = 1#1 ∧ v = 1#1 := by decide
  obtain ⟨ha, hb⟩ := split_and _ _ h
  have hd : ∀ j : Fin 512, d (ix2 0 j) = 0#32 ∨ d (ix2 0 j) = 1#32 := fun j => by
    have e := all_of_fold _ _ ha ((0 : Fin 1), j) (Finset.mem_univ _)
    have e' : BitVec.ofBool (d (ix2 0 j) == 0#32) ||| BitVec.ofBool (d (ix2 0 j) == 1#32) = 1#1 := e
    by_cases h0 : d (ix2 0 j) = 0#32
    · exact Or.inl h0
    · refine Or.inr ?_
      by_contra h1
      rw [beq_false_of_ne h0, beq_false_of_ne h1] at e'
      exact absurd e' (by decide)
  refine ⟨hd, ?_⟩
  rw [Finset.fold_congr (g := fun k : Fin 1 × Fin 512 => (BitVec.ofBool (ones (F := F) d k.2)).setWidth 32) fun k _ => by
      rw [show k.1 = 0 from Subsingleton.elim _ _]
      unfold ones
      rcases hd k.2 with e | e <;> rw [e] <;> rfl,
    IndicatorCount.fold_addi_setWidth_eq_card, card_pairs] at hb
  have e : BitVec.ofNat 32 (total (ones (F := F) d)) = 256#32 := by
    by_contra hne
    have hb' : BitVec.ofBool (BitVec.ofNat 32 (total (ones (F := F) d)) == 256#32) = 1#1 := hb
    rw [beq_false_of_ne hne] at hb'
    exact absurd hb' (by decide)
  have e' := congrArg BitVec.toNat e
  rw [BitVec.toNat_ofNat] at e'
  have := total_le (ones (F := F) d)
  have e2 : (256#32).toNat = 256 := rfl
  rw [e2] at e'; omega

/-- Then a device of either half sends the rows whose destination is the other half. -/
theorem away_eq (c : Dev nD) (d : Vec F S1x512 .i32) (hd : ∀ j : Fin 512, d (ix2 0 j) = 0#32 ∨ d (ix2 0 j) = 1#32) (j : Fin 512) :
    away c d j = if c.val / 16 = 0 then ones (F := F) d j else !ones (F := F) d j := by
  unfold away ones
  have := half_le c
  have : c.val / 16 = 0 ∨ c.val / 16 = 1 := by omega
  rcases this with e | e <;> rcases hd j with e' | e' <;> rw [e, e'] <;> rfl

/-- Then every device sends 256 rows. -/
theorem total_away (c : Dev nD) (d : Vec F S1x512 .i32) (hd : ∀ j : Fin 512, d (ix2 0 j) = 0#32 ∨ d (ix2 0 j) = 1#32)
    (ht : total (ones (F := F) d) = 256) : total (away c d) = 256 := by
  have h := total_not (ones (F := F) d)
  rw [funext fun j => away_eq c d hd j]
  split
  · exact ht
  · omega

variable (m : (ℓ : Loc nD τ sig) → Buf (Elt F) ℓ) (ρ : Dev nD → PrngReg)

/-- The block staged on a device is its argument. -/
theorem rowsOf_eq (c : Dev nD) : rowsOf m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem destOf_eq (c : Dev nD) : destOf m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- After the run the result's array holds the rows the device kept and those its partner sent. -/
theorem final_result (c : Dev nD) : final m ρ c (2 : Fin 3) = resultOf m ρ c := by
  have hf : (dats m ρ 0 c).flushed (2 : Fin 3) (0 : Fin 1) = resultOf m ρ c := by
    have ha : (dats m ρ 0 c).after (2 : Fin 3) (0 : Fin 1) = resultOf m ρ c := by unfold dats; rfl
    unfold Dat.flushed
    rw [ha]
    generalize resultOf m ρ c = R
    rfl
  have h : (win0_2.blk (0 : Fin 1)).view.read (Elt F) (final m ρ c (2 : Fin 3)) = resultOf m ρ c := by
    unfold final
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl, hf]
    generalize resultOf m ρ c = R
    exact View.read_write_univ _ _
  rw [← h]
  generalize final m ρ c (2 : Fin 3) = R
  exact (Memref.read_access_unit_zero (Elt F) main_v1 (off := fun a => (win0_2.index (0 : Fin 1)) a * main_v1.ty.shape.size a)
    (funext fun a => by fin_cases a <;> decide) (fun a => by fin_cases a <;> decide) R).symm

theorem sends_256 (c : Dev nD)
    (h : Cert.Pre_balanced_Kernel.fn (F := F) (m ((c : Thread nD τ).loc main_arg0)) (m ((c : Thread nD τ).loc main_arg1)) = fun _ => 1#1) :
    sendsOf c (destOf m ρ c) = 256#32 := by
  have hb := balanced_bits _ _ h
  rw [sends_eq, destOf_eq, total_away c _ hb.1 hb.2]

end Cert.Swap

end
-- ==== Proof.Values.lean ====
/-
# The rows a device sends and keeps

At the ideal instance each one-hot product picks a row: row `r` of what a device sends is the row of its block that has
exactly `r` rows to send before it and is to be sent itself, and likewise for the rows kept.
-/
module

public import proofs.«01_k».proof.Proof.Count

@[expose] public section

noncomputable section

namespace Cert.Swap

open Cert.KernelIdeal Cert.KernelIdeal.Gen
open Idealize.ShloMosaic Idealize.ShloMosaic.TcCoe Idealize.SL.Sem

/-! ## The position of a row -/

theorem before_lt_of_lt (p : Fin 512 → Bool) {i j : Fin 512} (h : i < j) (hi : p i = true) : before p i < before p j := by
  refine Finset.card_lt_card ⟨fun l hl => ?_, fun hs => ?_⟩
  · have h' := (Finset.mem_filter.mp hl).2
    exact Finset.mem_filter.mpr ⟨Finset.mem_univ _, h'.1, h'.2.trans h⟩
  · have h' := hs (Finset.mem_filter.mpr ⟨Finset.mem_univ i, hi, h⟩)
    exact absurd (Finset.mem_filter.mp h').2.2 (lt_irrefl _)

/-- Of the positions that satisfy `p`, no two have the same number of such positions before them. -/
theorem before_inj (p : Fin 512 → Bool) {i j : Fin 512} (hi : p i = true) (hj : p j = true) (h : before p i = before p j) : i = j := by
  rcases lt_trichotomy i j with hlt | he | hgt
  · have := before_lt_of_lt p hlt hi; omega
  · exact he
  · have := before_lt_of_lt p hgt hj; omega

/-! ## The one-hot products -/

/-- A product with a one-hot row is the entry it points at. -/
theorem pick (b : Fin 512 → BitVec 1) (y : Fin 512 → EReal) (j : Fin 512) (hb : ∀ i, b i = BitVec.ofBool (decide (i = j))) :
    (∑ i, (FloatOps.sitofp (F := Ideal) FTy.f32 ((b i).setWidth 32) : EReal) * y i) = y j := by
  rw [Finset.sum_eq_single j]
  · rw [hb, decide_eq_true rfl]
    refine (congrArg (· * y j) (show (((((BitVec.ofBool true).setWidth 32).toInt : ℝ) : EReal)) = 1 from ?_)).trans (one_mul _)
    rw [show ((BitVec.ofBool true).setWidth 32).toInt = 1 from by decide]; simp
  · intro i _ hi
    rw [hb, decide_eq_false hi]
    refine (congrArg (· * y i) (show (((((BitVec.ofBool false).setWidth 32).toInt : ℝ) : EReal)) = 0 from ?_)).trans (zero_mul _)
    rw [show ((BitVec.ofBool false).setWidth 32).toInt = 0 from by decide]; simp
  · intro h; exact absurd (Finset.mem_univ _) h

theorem eq_nat (a b : ℕ) (ha : a < 1024) (hb : b < 1024) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have e := congrArg BitVec.toNat h
    rw [BitVec.toNat_ofNat, BitVec.toNat_ofNat] at e; omega
  · rintro rfl; rfl

/-- The one-hot bits of a row to send. -/
theorem sent_bit (c : Dev nD) (d : IVec S1x512 32) (n : ℕ) (hn : n < 512) (j : Fin 512)
    (hj : away (F := Ideal) c d j = true) (hb : before (away (F := Ideal) c d) j = n) (i : Fin 512) :
    IntOp.andi (k0_pay1 (F := Ideal) c d (ix2 0 i))
      (IntOp.cmpi .eq (IntOp.subi (countsOf (F := Ideal) c d (ix2 0 i)) 1#32) (BitVec.ofNat 32 n)) = BitVec.ofBool (decide (i = j)) := by
  rw [mask_at, counts_at, window_all]
  by_cases hi : away (F := Ideal) c d i = true
  · rw [if_pos hi, hi]
    have hs : IntOp.subi (BitVec.ofNat 32 (before (away (F := Ideal) c d) i + 1)) 1#32 = BitVec.ofNat 32 (before (away (F := Ideal) c d) i) := by
      show BitVec.ofNat 32 (_ + 1) - 1#32 = _
      rw [BitVec.ofNat_add]; exact BitVec.add_sub_cancel _ _
    have hlt := before_lt (away (F := Ideal) c d) i
    rw [hs, eq_nat _ _ (by omega) (by omega)]
    have e : (before (away (F := Ideal) c d) i = n) = (i = j) :=
      propext ⟨fun h => before_inj _ hi hj (h.trans hb.symm), fun h => h ▸ hb⟩
    rw [show decide (before (away (F := Ideal) c d) i = n) = decide (i = j) from by simp only [e]]
    cases decide (i = j) <;> rfl
  · rw [decide_eq_false (fun h : i = j => hi (h ▸ hj)), Bool.eq_false_iff.mpr hi]
    show BitVec.ofBool false &&& _ = _
    exact BitVec.zero_and

/-- The one-hot bits of a row to keep. -/
theorem kept_bit (c : Dev nD) (d : IVec S1x512 32) (n : ℕ) (hn : n < 512) (j : Fin 512)
    (hj : away (F := Ideal) c d j = false) (hb : before (fun i => !away (F := Ideal) c d i) j = n) (i : Fin 512) :
    IntOp.andi (IntOp.xori (k0_pay1 (F := Ideal) c d (ix2 0 i)) 1#1)
      (IntOp.cmpi .eq (IntOp.subi (BitVec.ofNat 32 i.val) (countsOf (F := Ideal) c d (ix2 0 i))) (BitVec.ofNat 32 n))
      = BitVec.ofBool (decide (i = j)) := by
  rw [mask_at, counts_at, window_all]
  have hsum := before_not (away (F := Ideal) c d) i
  by_cases hi : away (F := Ideal) c d i = true
  · rw [decide_eq_false (fun h : i = j => by rw [h, hj] at hi; exact absurd hi (by decide)), hi]
    show (BitVec.ofBool true ^^^ 1#1) &&& _ = _
    exact BitVec.zero_and
  · have hf := Bool.eq_false_iff.mpr hi
    rw [if_neg hi, hf, Nat.add_zero]
    have hs : IntOp.subi (BitVec.ofNat 32 i.val) (BitVec.ofNat 32 (before (away (F := Ideal) c d) i))
        = BitVec.ofNat 32 (before (fun i => !away (F := Ideal) c d i) i) := by
      show BitVec.ofNat 32 i.val - _ = _
      rw [← hsum, Nat.add_comm, BitVec.ofNat_add]; exact BitVec.add_sub_cancel _ _
    rw [hs, eq_nat _ _ (by omega) (by omega)]
    have e : (before (fun i => !away (F := Ideal) c d i) i = n) = (i = j) :=
      propext ⟨fun h => before_inj _ (show (!away (F := Ideal) c d i) = true by rw [hf]; rfl) (show (!away (F := Ideal) c d j) = true by rw [hj]; rfl) (h.trans hb.symm), fun h => h ▸ hb⟩
    rw [show decide (before (fun i => !away (F := Ideal) c d i) i = n) = decide (i = j) from by simp only [e]]
    cases decide (i = j) <;> rfl

/-- Row `r` of chunk `k` is the row to send that has `128 k + r` before it. -/
theorem chunk_at (c : Dev nD) (x : FVec Ideal S512x256 .bf16) (d : IVec S1x512 32) (k : Fin 2) (r : Fin 128) (q : Fin 256) (j : Fin 512)
    (hj : away (F := Ideal) c d j = true) (hb : before (away (F := Ideal) c d) j = 128 * k.val + r.val) :
    chunkOf (F := Ideal) c x d k (ix2 r q) = x (ix2 j q) := by
  match k with
  | 0 =>
    show k0_pay10 _ _ _ _ = _
    pointwise [k0_pay10, k0_pay6, k0_pay9]
    refine pick _ (fun i => x (ix2 i q)) j fun i => ?_
    have e : IntOp.addi (BitVec.ofNat 32 r.val) 0#32 = BitVec.ofNat 32 r.val := BitVec.add_zero _
    rw [e]
    exact sent_bit c d r.val (by omega) j hj (hb.trans (by show 128 * 0 + r.val = _; omega)) i
  | 1 =>
    show k0_pay11 _ _ _ _ _ = _
    pointwise [k0_pay11, k0_pay6, k0_pay9]
    refine pick _ (fun i => x (ix2 i q)) j fun i => ?_
    have e : IntOp.addi (BitVec.ofNat 32 r.val) 128#32 = BitVec.ofNat 32 (r.val + 128) := (BitVec.ofNat_add ..).symm
    rw [e]
    exact sent_bit c d (r.val + 128) (by omega) j hj (hb.trans (by show 128 * 1 + r.val = _; omega)) i

/-- Row `r` of the rows kept is the row to keep that has `r` before it. -/
theorem keep_at (c : Dev nD) (x : FVec Ideal S512x256 .bf16) (d : IVec S1x512 32) (r : Fin 256) (q : Fin 256) (j : Fin 512)
    (hj : away (F := Ideal) c d j = false) (hb : before (fun i => !away (F := Ideal) c d i) j = r.val) :
    keepOf (F := Ideal) c x d (ix2 r q) = x (ix2 j q) := by
  unfold keepOf
  pointwise [k0_pay14, k0_pay9, k0_pay12, k0_pay13, k0_pay7]
  exact pick _ (fun i => x (ix2 i q)) j fun i => kept_bit c d r.val (by omega) j hj hb i

end Cert.Swap

end
-- ==== Proof.Result.lean ====
/-
# The rows of the result

A device of half `h` holds, in the 256 rows its half's device of half `s` supplies, the rows of that device's block that
are bound for `h`, in order: those it kept where it is that device, those its partner sent where the partner is.
-/
module

public import proofs.«01_k».proof.Proof.Values
public import Idealize.ShloMosaic.Lib.WritesUnit

@[expose] public section

noncomputable section

namespace Cert.Swap

open Cert.KernelIdeal Cert.KernelIdeal.Gen
open Idealize.ShloMosaic Idealize.ShloMosaic.TcCoe Idealize.SL.Sem

/-- Each number below the total is the number of positions before some position that counts itself. -/
theorem nth_exists (p : Fin 512 → Bool) {n : ℕ} (hp : total p = n) (t : Fin n) : ∃ j, p j = true ∧ before p j = t.val := by
  have hlt : ∀ j, p j = true → before p j < total p := fun j hj => by
    refine Finset.card_lt_card ⟨fun l hl => ?_, fun hs => ?_⟩
    · exact Finset.mem_filter.mpr ⟨Finset.mem_univ _, (Finset.mem_filter.mp hl).2.1⟩
    · exact absurd (Finset.mem_filter.mp (hs (Finset.mem_filter.mpr ⟨Finset.mem_univ j, hj⟩))).2.2 (lt_irrefl _)
  have hs := Finset.surj_on_of_inj_on_of_card_le (s := Finset.univ.filter fun i => p i = true) (t := Finset.range (total p))
    (fun j _ => before p j) (fun j hj => Finset.mem_range.mpr (hlt j (Finset.mem_filter.mp hj).2))
    (fun i j hi hj h => before_inj p (Finset.mem_filter.mp hi).2 (Finset.mem_filter.mp hj).2 h)
    (by rw [Finset.card_range]; exact le_refl _)
  obtain ⟨j, hj, he⟩ := hs t.val (Finset.mem_range.mpr (hp ▸ t.isLt))
  exact ⟨j, (Finset.mem_filter.mp hj).2, he.symm⟩

/-- Row `j` is bound for half `h`. -/
def toHalf (d : IVec S1x512 32) (h : ℕ) (j : Fin 512) : Bool := d (ix2 0 j) == BitVec.ofNat 32 h

variable (m : (ℓ : Loc nD τ sig) → Buf (Elt Ideal) ℓ) (ρ : Dev nD → PrngReg)

/-- Row `256 * s + t` of a result. -/
abbrev blockRow (s t : ℕ) (hs : s ≤ 1) (ht : t < 256) : Fin 512 := ⟨256 * s + t, by omega⟩

theorem result_kept (c : Dev nD) (t q : Fin 256) :
    resultOf (F := Ideal) m ρ c (ix2 (blockRow (c.val / 16) t.val (half_le c) t.isLt) q) = keep m ρ c (ix2 t q) := by
  have h := View.read_writes_cons_rows_of_mem (Val := Elt Ideal) oM.view (rowsOf m ρ c) (k0_off2_inb c 256#32 (offsets_ok c)) (keep m ρ c)
    [⟨sentR (mate c) 0, chunk m ρ (mate c) 0⟩, ⟨sentR (mate c) 1, chunk m ρ (mate c) 1⟩]
    (ix2 (blockRow (c.val / 16) t.val (half_le c) t.isLt) q) (ix2 t q) (kept_off c) rfl rfl
  exact h

theorem result_sent (c : Dev nD) (k : Fin 2) (r : Fin 128) (q : Fin 256) :
    resultOf (F := Ideal) m ρ c (ix2 (blockRow ((mate c).val / 16) (128 * k.val + r.val) (half_le _) (by omega)) q)
      = chunk m ρ (mate c) k (ix2 r q) := by
  have hm := mate_half c
  have hc := half_le c
  have h1 := View.read_writes_cons_rows_of_not_mem (Val := Elt Ideal) oM.view (rowsOf m ρ c) (k0_off2_inb c 256#32 (offsets_ok c)) (keep m ρ c)
    [⟨sentR (mate c) 0, chunk m ρ (mate c) 0⟩, ⟨sentR (mate c) 1, chunk m ρ (mate c) 1⟩]
    (ix2 (blockRow ((mate c).val / 16) (128 * k.val + r.val) (half_le _) (by omega)) q) (kept_off c) (W := 256) rfl
    (by show 256 * _ + (128 * k.val + r.val) < _ ∨ _ ≤ 256 * _ + (128 * k.val + r.val); omega)
  refine Eq.trans h1 ?_
  match k with
  | ⟨0, _⟩ =>
    exact View.read_writes_cons_rows_of_mem (Val := Elt Ideal) oM.view (rowsOf m ρ c) (k0_off1_inb (mate c) 256#32 (offsets_ok (mate c)) 0) (chunk m ρ (mate c) 0)
      [⟨sentR (mate c) 1, chunk m ρ (mate c) 1⟩] _ (ix2 r q) (sent_off (mate c) 0)
      (by show 256 * _ + (128 * 0 + r.val) = 256 * _ + 128 * 0 + r.val; omega) rfl
  | ⟨1, _⟩ =>
    refine (View.read_writes_cons_rows_of_not_mem (Val := Elt Ideal) oM.view (rowsOf m ρ c) (k0_off1_inb (mate c) 256#32 (offsets_ok (mate c)) 0) (chunk m ρ (mate c) 0)
      [⟨sentR (mate c) 1, chunk m ρ (mate c) 1⟩] _ (sent_off (mate c) 0) (W := 128) rfl
      (by show 256 * _ + (128 * 1 + r.val) < _ ∨ 256 * _ + 128 * 0 + 128 ≤ 256 * _ + (128 * 1 + r.val); omega)).trans ?_
    exact View.read_writes_cons_rows_of_mem (Val := Elt Ideal) oM.view (rowsOf m ρ c) (k0_off1_inb (mate c) 256#32 (offsets_ok (mate c)) 1) (chunk m ρ (mate c) 1)
      [] _ (ix2 r q) (sent_off (mate c) 1)
      (by show 256 * _ + (128 * 1 + r.val) = 256 * _ + 128 * 1 + r.val; omega) rfl

/-- Row `256 * s + t` of the result of a device of half `h` is row `j` of the block of the device of half `s`, where `j`
    is the row bound for `h` with `t` such rows before it. -/
theorem result_at (c s : Dev nD) (hs : s = c ∨ s = mate c)
    (hd : ∀ j : Fin 512, (m ((s : Thread nD τ).loc main_arg1) : IVec S1x512 32) (ix2 0 j) = 0#32
      ∨ (m ((s : Thread nD τ).loc main_arg1) : IVec S1x512 32) (ix2 0 j) = 1#32)
    (t q : Fin 256) (j : Fin 512) (hj : toHalf (m ((s : Thread nD τ).loc main_arg1)) (c.val / 16) j = true)
    (hb : before (toHalf (m ((s : Thread nD τ).loc main_arg1)) (c.val / 16)) j = t.val) :
    resultOf (F := Ideal) m ρ c (ix2 (blockRow (s.val / 16) t.val (half_le s) t.isLt) q)
      = (m ((s : Thread nD τ).loc main_arg0) : FVec Ideal S512x256 .bf16) (ix2 j q) := by
  rcases hs with rfl | rfl
  · rw [result_kept, keep, rowsOf_eq, destOf_eq]
    have hp : (fun i => !away s (m ((s : Thread nD τ).loc main_arg1)) i) = toHalf (m ((s : Thread nD τ).loc main_arg1)) (s.val / 16) := by
      funext i; unfold away toHalf; exact Bool.not_not _
    refine keep_at s _ _ t q j ?_ (by rw [hp]; exact hb)
    have h := congrFun hp j
    rw [hj] at h
    simpa using h
  · have hp : away (mate c) (m (((mate c : Dev nD) : Thread nD τ).loc main_arg1)) = toHalf (m (((mate c : Dev nD) : Thread nD τ).loc main_arg1)) (c.val / 16) := by
      funext i
      unfold away toHalf
      rw [mate_half]
      have hc := half_le c
      rcases (by omega : c.val / 16 = 0 ∨ c.val / 16 = 1) with e | e <;> rw [e] <;> rcases hd i with h | h <;> rw [h] <;> rfl
    obtain ⟨k, r, hkr⟩ : ∃ (k : Fin 2) (r : Fin 128), t.val = 128 * k.val + r.val :=
      ⟨⟨t.val / 128, by omega⟩, ⟨t.val % 128, by omega⟩, by simp only; omega⟩
    rw [show blockRow ((mate c).val / 16) t.val (half_le _) t.isLt = blockRow ((mate c).val / 16) (128 * k.val + r.val) (half_le _) (by omega) from
      Fin.ext (by show 256 * _ + t.val = 256 * _ + (128 * k.val + r.val); omega), result_sent, chunk, rowsOf_eq, destOf_eq]
    exact chunk_at (mate c) _ _ k r q j (by rw [hp]; exact hj) (by rw [hp, hb]; exact hkr)

end Cert.Swap

end
-- ==== Proof.Order.lean ====
/-
# The order of the reference

The reference sorts the rows by destination, keeping their order among equals. The row it puts at place `p` is the one with
exactly `p` rows before it in that order, which is counted block by block.
-/
module

public import proofs.«01_k».proof.Proof.Count
public import Idealize.ShloMosaic.Lib.PlanTiles.StableSort

@[expose] public section

noncomputable section

namespace Cert.Swap

open Idealize.ShloMosaic

/-! ## The place of a row in a stable sort -/

theorem sorted_lex {n : ℕ} (G : Fin n → ℕ) {i j : Fin n} (h : i < j) :
    PlanTiles.Lex G (· < ·) (sortedFrom (fun x y => decide (G y < G x)) i) (sortedFrom (fun x y => decide (G y < G x)) j) := by
  have hp := List.pairwise_iff_get.mp (PlanTiles.pairwise_stableSort_lex G (· < ·) (List.finRange n) (List.pairwise_lt_finRange n))
  exact hp _ _ h

/-- The row with `p` rows before it in the order of the sort is at place `p`. -/
theorem sorted_at {n : ℕ} (G : Fin n → ℕ) (i p : Fin n)
    (h : (Finset.univ.filter fun k => G i < G k ∨ (G k = G i ∧ k < i)).card = p.val) :
    sortedFrom (fun x y => decide (G y < G x)) p = i := by
  obtain ⟨r, rfl⟩ := sortedFrom_surjective (fun x y => decide (G y < G x)) i
  have hc : (Finset.univ.filter fun k => G (sortedFrom (fun x y => decide (G y < G x)) r) < G k
      ∨ (G k = G (sortedFrom (fun x y => decide (G y < G x)) r) ∧ k < sortedFrom (fun x y => decide (G y < G x)) r)).card = r.val := by
    have he : (Finset.univ.filter fun k => G (sortedFrom (fun x y => decide (G y < G x)) r) < G k
        ∨ (G k = G (sortedFrom (fun x y => decide (G y < G x)) r) ∧ k < sortedFrom (fun x y => decide (G y < G x)) r))
        = (Finset.Iio r).image (sortedFrom (fun x y => decide (G y < G x))) := by
      ext k
      rw [Finset.mem_filter, Finset.mem_image]
      constructor
      · rintro ⟨-, hk⟩
        obtain ⟨l, rfl⟩ := sortedFrom_surjective (fun x y => decide (G y < G x)) k
        refine ⟨l, Finset.mem_Iio.mpr ?_, rfl⟩
        rcases lt_trichotomy l r with hlt | rfl | hgt
        · exact hlt
        · rcases hk with hk | ⟨-, hk⟩
          · exact absurd hk (lt_irrefl _)
          · exact absurd hk (lt_irrefl _)
        · exfalso
          rcases sorted_lex G hgt with h' | ⟨h', h''⟩ <;> rcases hk with hk | ⟨hk, hk'⟩
          · exact lt_asymm h' hk
          · omega
          · omega
          · exact lt_asymm h'' hk'
      · rintro ⟨l, hl, rfl⟩
        exact ⟨Finset.mem_univ _, sorted_lex G (Finset.mem_Iio.mp hl)⟩
    rw [he, Finset.card_image_of_injective _ (sortedFrom_injective _), Fin.card_Iio]
  rw [Fin.ext (h.symm.trans hc)]

/-! ## Counting block by block -/

/-- Row `j` of block `s` among all the rows. -/
def glob (s : Fin 2) (j : Fin 512) : Fin 1024 := ⟨512 * s.val + j.val, by omega⟩

theorem count_blocks (P : Fin 1024 → Prop) [DecidablePred P] :
    (Finset.univ.filter P).card = (Finset.univ.filter fun j => P (glob 0 j)).card + (Finset.univ.filter fun j => P (glob 1 j)).card := by
  rw [Finset.card_filter, Finset.card_filter, Finset.card_filter]
  refine (Fin.sum_univ_add (a := 512) (b := 512) (fun i => if P i then 1 else 0)).trans ?_
  refine congrArg₂ (· + ·) ?_ ?_
  · refine Finset.sum_congr rfl fun j _ => ?_
    rw [show (Fin.castAdd 512 j : Fin (512 + 512)) = glob 0 j from Fin.ext (by simp [glob])]
  · refine Finset.sum_congr rfl fun j _ => ?_
    rw [show (Fin.natAdd 512 j : Fin (512 + 512)) = glob 1 j from Fin.ext (by simp [glob, Nat.add_comm])]

theorem count_all (p : Fin 1024 → Bool) (h : ∀ s, total (fun j => p (glob s j)) = 256) :
    (Finset.univ.filter fun k => p k = true).card = 512 := by
  rw [count_blocks]
  exact congrArg₂ (· + ·) (h 0) (h 1)

theorem count_before (p : Fin 1024 → Bool) (h : ∀ s, total (fun j => p (glob s j)) = 256) (s : Fin 2) (j : Fin 512) :
    (Finset.univ.filter fun k => p k = true ∧ k < glob s j).card = 256 * s.val + before (fun i => p (glob s i)) j := by
  rw [count_blocks]
  have h0 := h 0
  unfold total at h0
  have hlt : ∀ i : Fin 512, (glob s i < glob s j) ↔ i < j := fun i => by
    show 512 * s.val + i.val < 512 * s.val + j.val ↔ i.val < j.val; omega
  match s with
  | ⟨0, _⟩ =>
    have e : (Finset.univ.filter fun i => p (glob 1 i) = true ∧ glob 1 i < glob ⟨0, by omega⟩ j) = ∅ :=
      Finset.filter_false_of_mem fun i _ hi => by
        have : 512 * 1 + i.val < 512 * 0 + j.val := hi.2
        omega
    rw [e, Finset.card_empty]
    unfold before
    simp only [Nat.mul_zero, Nat.zero_add, Nat.add_zero]
    exact congrArg Finset.card (Finset.filter_congr fun i _ => and_congr_right fun _ => hlt i)
  | ⟨1, _⟩ =>
    have e : (Finset.univ.filter fun i => p (glob 0 i) = true ∧ glob 0 i < glob ⟨1, by omega⟩ j) = Finset.univ.filter fun i => p (glob 0 i) = true :=
      Finset.filter_congr fun i _ => and_iff_left (by show 512 * 0 + i.val < 512 * 1 + j.val; omega)
    rw [e, h0]
    unfold before
    refine congrArg (256 + ·) ?_
    exact congrArg Finset.card (Finset.filter_congr fun i _ => and_congr_right fun _ => hlt i)

/-! ## The place of a row -/

/-- Where every destination is 0 or 1 and every block has as many of either, row `j` of block `s`, bound for half `h` and with
    `t` such rows before it in its block, is at place `512 * h + 256 * s + t`. -/
theorem place (o : Fin 1024 → Bool) (ho : ∀ s, total (fun j => o (glob s j)) = 256) (b : Bool) (s : Fin 2) (j : Fin 512)
    (hj : o (glob s j) = b) (t : ℕ) (hb : before (fun i => o (glob s i) == b) j = t) (p : Fin 1024)
    (hp : p.val = 512 * b.toNat + 256 * s.val + t) :
    sortedFrom (fun x y : Fin 1024 => decide ((!o y).toNat < (!o x).toNat)) p = glob s j := by
  refine sorted_at (fun k : Fin 1024 => (!o k).toNat) (glob s j) p ?_
  have hn : ∀ s, total (fun j => !o (glob s j)) = 256 := fun s => by
    have := total_not (fun j => o (glob s j)); have := ho s; omega
  simp only [hj]
  cases b with
  | false =>
    have e : (Finset.univ.filter fun k : Fin 1024 => (!false).toNat < (!o k).toNat ∨ ((!o k).toNat = (!false).toNat ∧ k < glob s j))
        = Finset.univ.filter fun k => (!o k) = true ∧ k < glob s j :=
      Finset.filter_congr fun k _ => by cases o k <;> simp
    rw [e, count_before (fun k => !o k) hn, hp, ← hb]
    simp
  | true =>
    have e : (Finset.univ.filter fun k : Fin 1024 => (!true).toNat < (!o k).toNat ∨ ((!o k).toNat = (!true).toNat ∧ k < glob s j))
        = (Finset.univ.filter fun k => (!o k) = true) ∪ Finset.univ.filter fun k => o k = true ∧ k < glob s j := by
      rw [← Finset.filter_or]
      exact Finset.filter_congr fun k _ => by cases o k <;> simp
    rw [e, Finset.card_union_of_disjoint, count_all (fun k => !o k) hn, count_before o ho, hp, ← hb]
    · simp; omega
    · rw [Finset.disjoint_filter]
      rintro k - h1 ⟨h2, -⟩
      rw [h2] at h1
      exact absurd h1 (by decide)

end Cert.Swap

end
-- ==== Proof.Reference.lean ====
/-
# The rows of the reference

At place `512 * h + 256 * s + t` the reference has the row bound for half `h`, with `t` such rows before it, of block `s`.
-/
module

public import proofs.«01_k».proof.Proof.Order
public import proofs.«01_k».proof.Proof.Gen.ReferenceIdeal
public import Idealize.ShloMosaic.Lib.Routing.Ops
public import Idealize.ShloMosaic.Lib.Routing.OpsPair
public import Idealize.ShloMosaic.Lib.Pointwise

@[expose] public section

noncomputable section

namespace Cert.Swap

open Cert.ReferenceIdeal Cert.ReferenceIdeal.Gen
open Idealize.ShloMosaic

/-- The order in which the reference takes the rows. -/
def orderOf (d : IVec S1x1024 32) : IVec S1024 32 :=
  (Host.sort2 S1024 0 comparator_i32_i32_d0 (shapeCast _ d shapeCasts_S1x1024_S1024) (iotaInDim S1024 32 0)).2
/-- The rows' numbers the reference takes, a negative one counted from the end. -/
def takenOf (d : IVec S1x1024 32) : IVec S1024x1 32 :=
  broadcastInDim S1024x1 ![0] bcast_S1024_S1024x1_0 (select (cmpi .slt (orderOf d) (broadcastInDim S1024 ![] bcast_S_S1024 (constantI S_ 32 0#32)))
    (addi (orderOf d) (broadcastInDim S1024 ![] bcast_S_S1024 (constantI S_ 32 1024#32))) (orderOf d))
/-- The reference's result. -/
def sortedRows (x : FVec Ideal S1024x256 .bf16) (d : IVec S1x1024 32) : FVec Ideal S1024x256 .bf16 :=
  Host.gather gather_S1024x256_S1024x1_S1024x256_1_0_n_n_0_1_1256 x (takenOf d)

theorem keys_at (d : IVec S1x1024 32) (k : Fin 1024) :
    (shapeCast S1024 d shapeCasts_S1x1024_S1024) (ix1 k) = d (ix2 0 k) := by
  exact Routing.cast21 d shapeCasts_S1x1024_S1024 0 k k (by omega)

theorem slt_bits (a b : BitVec 32) (ha : a = 0#32 ∨ a = 1#32) (hb : b = 0#32 ∨ b = 1#32) :
    (IntOp.cmpi .slt a b == 1#1) = decide ((!(b == 1#32)).toNat < (!(a == 1#32)).toNat) := by
  rcases ha with rfl | rfl <;> rcases hb with rfl | rfl <;> decide

/-- The row in place `p` of the order. -/
theorem orderOf_at (d : IVec S1x1024 32) (hd : ∀ k : Fin 1024, d (ix2 0 k) = 0#32 ∨ d (ix2 0 k) = 1#32) (p : Fin 1024) :
    orderOf d (ix1 p) = BitVec.ofNat 32
      (sortedFrom (fun x y : Fin 1024 => decide ((!(d (ix2 0 y) == 1#32)).toNat < (!(d (ix2 0 x) == 1#32)).toNat)) p).val := by
  have hr : 0 < S1024.rank := Nat.zero_lt_one
  have e : ∀ (j : S1024.Idx) (c : Fin 1024), j.along (⟨0, hr⟩ : Fin S1024.rank) c = ix1 c := fun j c =>
    (Shape.Idx.along_rank1 j c).trans (Routing.ofFin_eq_ix1 c)
  have hB : (fun k k' : Fin 1024 => comparator_i32_i32_d0
        ((shapeCast S1024 d shapeCasts_S1x1024_S1024) ((ix1 p : S1024.Idx).along ⟨0, hr⟩ k), (iotaInDim S1024 32 0) ((ix1 p : S1024.Idx).along ⟨0, hr⟩ k))
        ((shapeCast S1024 d shapeCasts_S1x1024_S1024) ((ix1 p : S1024.Idx).along ⟨0, hr⟩ k'), (iotaInDim S1024 32 0) ((ix1 p : S1024.Idx).along ⟨0, hr⟩ k')) == 1#1)
      = fun x y : Fin 1024 => decide ((!(d (ix2 0 y) == 1#32)).toNat < (!(d (ix2 0 x) == 1#32)).toNat) := by
    funext x y
    rw [e, e]
    show (IntOp.cmpi .slt _ _ == 1#1) = _
    rw [keys_at, keys_at]
    exact slt_bits _ _ (hd x) (hd y)
  unfold orderOf Host.sort2
  rw [dif_pos hr]
  show (iotaInDim S1024 32 0) ((ix1 p : S1024.Idx).along ⟨0, hr⟩ (sortedFrom (n := 1024) (fun k k' : Fin 1024 => _) p)) = _
  refine (congrArg (iotaInDim S1024 32 0) (e _ _)).trans ?_
  refine Eq.trans ?_ (congrArg (fun B : Fin 1024 → Fin 1024 → Bool => BitVec.ofNat 32 (sortedFrom B p).val) hB)
  rfl

/-- A row number is not negative, so it is taken as it is. -/
theorem takenOf_at (d : IVec S1x1024 32) (p : Fin 1024) (i : Fin 1024) (h : orderOf d (ix1 p) = BitVec.ofNat 32 i.val) :
    takenOf d (ix2 p 0) = BitVec.ofNat 32 i.val := by
  unfold takenOf
  refine (Routing.bcCol bcast_S1024_S1024x1_0 _ p).trans ?_
  show Scalar.select (IntOp.cmpi .slt (orderOf d (ix1 p)) 0#32) _ (orderOf d (ix1 p)) = _
  rw [h]
  refine Routing.wrap_of_lt _ _ ?_
  rw [BitVec.toNat_ofNat]
  have := i.isLt
  omega

theorem sortedRows_at (x : FVec Ideal S1024x256 .bf16) (d : IVec S1x1024 32)
    (hd : ∀ k : Fin 1024, d (ix2 0 k) = 0#32 ∨ d (ix2 0 k) = 1#32)
    (ht : ∀ s, total (fun j => d (ix2 0 (glob s j)) == 1#32) = 256) (h s : Fin 2) (t q : Fin 256) (j : Fin 512)
    (hj : (d (ix2 0 (glob s j)) == BitVec.ofNat 32 h.val) = true)
    (hb : before (fun i => d (ix2 0 (glob s i)) == BitVec.ofNat 32 h.val) j = t.val) (p : Fin 1024)
    (hp : p.val = 512 * h.val + 256 * s.val + t.val) : sortedRows x d (ix2 p q) = x (ix2 (glob s j) q) := by
  have hpl := place (fun k => d (ix2 0 k) == 1#32) ht (h.val == 1) s j
    (by
      rcases hd (glob s j) with e | e <;> match h with
        | ⟨0, _⟩ => simp only [e] at hj ⊢; revert hj; decide
        | ⟨1, _⟩ => simp only [e] at hj ⊢; revert hj; decide)
    t.val
    (by
      rw [← hb]
      congr 1
      funext i
      rcases hd (glob s i) with e | e <;> rw [e] <;> match h with
        | ⟨0, _⟩ => rfl
        | ⟨1, _⟩ => rfl)
    p (by rw [hp]; match h with
      | ⟨0, _⟩ => rfl
      | ⟨1, _⟩ => rfl)
  exact Routing.gather_row gather_S1024x256_S1024x1_S1024x256_1_0_n_n_0_1_1256 rfl rfl rfl rfl rfl x (takenOf d) p q (glob s j)
    (takenOf_at d p _ ((orderOf_at d hd p).trans (by rw [hpl]))) (by norm_num)

end Cert.Swap

end
-- ==== Proof.Equal.lean ====
/-
# The result is the reference's block

Where the arguments are the blocks of the reference's arrays and every device has as many rows for either half, a device's
result is its block of the reference's result.
-/
module

public import proofs.«01_k».proof.Proof.Result
public import proofs.«01_k».proof.Proof.Reference
public import Idealize.ShloMosaic.Lib.Layout

@[expose] public section

noncomputable section

namespace Cert.Swap

open Cert.KernelIdeal Cert.KernelIdeal.Gen
open Idealize.ShloMosaic Idealize.ShloMosaic.TcCoe Idealize.SL.Sem

/-! ## The blocks -/

/-- The half of a device. -/
def half (c : Dev nD) : Fin 2 := ⟨c.val / 16, by have := half_le c; omega⟩

theorem rows_block {α : Type} (c : Dev nD) (x : (⟨2, ![1024, 256]⟩ : Shape).Idx → α) (j : Fin 512) (q : Fin 256) :
    (Layout.blockN ⟨2, ![512, 256]⟩ ⟨2, ![1024, 256]⟩ (Layout.meshBlock [2, 4, 4] ![[0], []] c) x) (ix2 j q) = x (ix2 (glob (half c) j) q) := by
  have h : Layout.meshLin [2, 4, 4] c.val [0] = c.val / 16 := by revert c; decide
  refine congrArg x (funext fun a => Fin.ext ?_)
  match a with
  | ⟨0, _⟩ =>
    show Layout.meshLin [2, 4, 4] c.val [0] * 512 + j.val = 512 * (c.val / 16) + j.val
    rw [h]; omega
  | ⟨1, _⟩ =>
    show 0 * 256 + q.val = q.val
    omega

theorem dest_block {α : Type} (c : Dev nD) (x : (⟨2, ![1, 1024]⟩ : Shape).Idx → α) (j : Fin 512) :
    (Layout.blockN ⟨2, ![1, 512]⟩ ⟨2, ![1, 1024]⟩ (Layout.meshBlock [2, 4, 4] ![[], [0]] c) x) (ix2 0 j) = x (ix2 0 (glob (half c) j)) := by
  have h : Layout.meshLin [2, 4, 4] c.val [0] = c.val / 16 := by revert c; decide
  refine congrArg x (funext fun a => Fin.ext ?_)
  match a with
  | ⟨0, _⟩ => rfl
  | ⟨1, _⟩ =>
    show Layout.meshLin [2, 4, 4] c.val [0] * 512 + j.val = 512 * (c.val / 16) + j.val
    rw [h]; omega

/-- As many rows are bound for either half. -/
theorem total_toHalf (d : IVec S1x512 32) (hd : ∀ j : Fin 512, d (ix2 0 j) = 0#32 ∨ d (ix2 0 j) = 1#32)
    (ht : total (ones (F := Ideal) d) = 256) (h : ℕ) (hh : h ≤ 1) : total (toHalf d h) = 256 := by
  rcases (by omega : h = 0 ∨ h = 1) with rfl | rfl
  · have e : toHalf d 0 = fun j => !ones (F := Ideal) d j := by
      funext j; unfold toHalf ones; rcases hd j with e | e <;> rw [e] <;> rfl
    have := total_not (ones (F := Ideal) d)
    rw [e]; omega
  · exact ht

/-- Of a device and its partner, one is of either half. -/
theorem half_of (c : Dev nD) (s : Fin 2) : ∃ d : Dev nD, (d = c ∨ d = mate c) ∧ half d = s := by
  have h := mate_half c
  have hc := half_le c
  have hs := s.isLt
  by_cases e : c.val / 16 = s.val
  · exact ⟨c, Or.inl rfl, Fin.ext e⟩
  · exact ⟨mate c, Or.inr rfl, Fin.ext (by show (mate c).val / 16 = s.val; omega)⟩

variable (m : (ℓ : Loc nD τ sig) → Buf (Elt Ideal) ℓ) (ρ : Dev nD → PrngReg)

theorem result_eq (x : FVec Ideal Cert.ReferenceIdeal.S1024x256 .bf16) (d : IVec Cert.ReferenceIdeal.S1x1024 32)
    (hpre : ∀ c : Dev nD, Cert.Pre_balanced_Kernel.fn (F := Ideal) (m ((c : Thread nD τ).loc main_arg0)) (m ((c : Thread nD τ).loc main_arg1)) = fun _ => 1#1)
    (hx : ∀ c : Dev nD, m ((c : Thread nD τ).loc main_arg0) = Layout.blockN ⟨2, ![512, 256]⟩ ⟨2, ![1024, 256]⟩ (Layout.meshBlock [2, 4, 4] ![[0], []] c) x)
    (hd : ∀ c : Dev nD, m ((c : Thread nD τ).loc main_arg1) = Layout.blockN ⟨2, ![1, 512]⟩ ⟨2, ![1, 1024]⟩ (Layout.meshBlock [2, 4, 4] ![[], [0]] c) d)
    (c : Dev nD) :
    resultOf m ρ c = Layout.blockN ⟨2, ![512, 256]⟩ ⟨2, ![1024, 256]⟩ (Layout.meshBlock [2, 4, 4] ![[0], []] c) (sortedRows x d) := by
  have hbits := fun e : Dev nD => balanced_bits _ _ (hpre e)
  have hat : ∀ (e : Dev nD) (j : Fin 512), (m ((e : Thread nD τ).loc main_arg1) : IVec S1x512 32) (ix2 0 j) = d (ix2 0 (glob (half e) j)) :=
    fun e j => (congrFun (hd e) (ix2 0 j)).trans (dest_block e d j)
  have hbit : ∀ k : Fin 1024, d (ix2 0 k) = 0#32 ∨ d (ix2 0 k) = 1#32 := fun k => by
    obtain ⟨e, -, he⟩ := half_of c ⟨k.val / 512, by omega⟩
    have h := (hbits e).1 ⟨k.val % 512, by omega⟩
    rw [hat, he, show glob ⟨k.val / 512, by omega⟩ ⟨k.val % 512, by omega⟩ = k from Fin.ext (by show 512 * (k.val / 512) + k.val % 512 = k.val; omega)] at h
    exact h
  have htot : ∀ s, total (fun j => d (ix2 0 (glob s j)) == 1#32) = 256 := fun s => by
    obtain ⟨e, -, he⟩ := half_of c s
    have h := (hbits e).2
    rw [show ones (F := Ideal) (m ((e : Thread nD τ).loc main_arg1)) = fun j => d (ix2 0 (glob s j)) == 1#32 from by
      funext j; unfold ones; rw [hat, he]] at h
    exact h
  have hrow : ∀ (R : Fin 512) (q : Fin 256), resultOf (F := Ideal) m ρ c (ix2 R q)
      = (Layout.blockN ⟨2, ![512, 256]⟩ ⟨2, ![1024, 256]⟩ (Layout.meshBlock [2, 4, 4] ![[0], []] c) (sortedRows x d)) (ix2 R q) := by
    intro R q
    obtain ⟨e, hec, he⟩ := half_of c ⟨R.val / 256, by omega⟩
    have he' : e.val / 16 = R.val / 256 := congrArg Fin.val he
    obtain ⟨j, hj, hb⟩ := nth_exists (toHalf (m ((e : Thread nD τ).loc main_arg1)) (c.val / 16))
      (total_toHalf _ (hbits e).1 (hbits e).2 _ (half_le c)) ⟨R.val % 256, by omega⟩
    have hto : toHalf (m ((e : Thread nD τ).loc main_arg1)) (c.val / 16) = fun i => d (ix2 0 (glob (half e) i)) == BitVec.ofNat 32 (half c).val := by
      funext i; unfold toHalf; rw [hat]; rfl
    have h1 := result_at m ρ c e hec (hbits e).1 ⟨R.val % 256, by omega⟩ q j hj hb
    have hR : blockRow (e.val / 16) (R.val % 256) (half_le e) (by omega) = R := Fin.ext (by show 256 * (e.val / 16) + R.val % 256 = R.val; omega)
    have h2 := sortedRows_at x d hbit htot (half c) (half e) ⟨R.val % 256, by omega⟩ q j (by rw [hto] at hj; exact hj) (by rw [hto] at hb; exact hb)
      (glob (half c) R) (by show 512 * (c.val / 16) + R.val = 512 * (c.val / 16) + 256 * (e.val / 16) + R.val % 256; omega)
    rw [rows_block, h2]
    refine Eq.trans (congrArg (fun i => resultOf (F := Ideal) m ρ c (ix2 i q)) hR.symm) (h1.trans ?_)
    exact (congrFun (hx e) (ix2 j q)).trans (rows_block e x j q)
  funext i
  have hi : i = ix2 (n0 := 512) (n1 := 256) (i 0) (i 1) := by
    funext a
    match a with
    | ⟨0, _⟩ => rfl
    | ⟨1, _⟩ => rfl
  rw [hi]
  exact hrow _ _

end Cert.Swap

end
-- ==== Proof.lean ====
/-
# The certificate

Every run of the kernel from a memory that satisfies the precondition ends with the arguments unchanged and every
counter at zero. The kernel's text is the same at both float instances, so its run is proved once. At the ideal instance
every device's result is its block of the reference's result.
-/
module

public import proofs.«01_k».proof.Defs
public import proofs.«01_k».proof.Proof.Count
public import proofs.«01_k».proof.Proof.Equal
public import proofs.«01_k».proof.Proof.Gen.Kernel
public import proofs.«01_k».proof.Proof.Gen.ReferenceIdeal
public import proofs.«01_k».proof.Proof.Gen.ReferenceIdeal.Run
public import proofs.«01_k».proof.Proof.Gen.Pre_balanced_ReferenceIdeal
public import Idealize.ShloMosaic.Adequacy
public import Idealize.ShloMosaic.Init

@[expose] public section

noncomputable section

namespace Cert.Proof

open Idealize.ShloMosaic Idealize.SL.Sem Cert.Swap

/-- The kernel's run at any float instance: the arguments end unchanged and every counter at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg)
    (h : ∀ c : Dev Cert.KernelIdeal.nD, Cert.Pre_balanced_Kernel.fn (F := F) (m (c.tc.loc Cert.KernelIdeal.main_arg0)) (m (c.tc.loc Cert.KernelIdeal.main_arg1)) = fun _ => 1#1) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0) :=
  (θ_run Cert.KernelIdeal.defs _ _).mono (fun _ hr => ⟨fun c => ⟨(hr.1 c (0 : Fin 3)).trans (final_rows m g c), (hr.1 c (1 : Fin 3)).trans (final_dest m g c)⟩, hr.2⟩)
    (run_main m g fun c => sends_256 m g c (h c))

/-- The two printed programs have the same bodies, so the same table. -/
theorem bodies_eq {F : FTy → Type} [FloatOps F] : Cert.Kernel.defs₀ (F := F) = Cert.KernelIdeal.defs₀ :=
  congrArg Defs.onTc (funext fun l => funext fun a => match l, a with
    | 0, (t, s) => rfl
    | ⟨_ + 1, h⟩, _ => absurd h (Nat.not_lt.2 (Nat.le_add_left _ _)))
theorem tables_eq {F : FTy → Type} [FloatOps F] : Cert.Kernel.defs (F := F) = Cert.KernelIdeal.defs :=
  show Pipeline.defs Cert.KernelIdeal.pcfgs Cert.Kernel.defs₀ = Pipeline.defs Cert.KernelIdeal.pcfgs Cert.KernelIdeal.defs₀ from
    congrArg (Pipeline.defs Cert.KernelIdeal.pcfgs) bodies_eq

theorem frame_kernel : Cert.quiescent_Kernel := fun m g h => by
  rw [show Cert.Kernel.defs (F := Bits) = Cert.KernelIdeal.defs from tables_eq]
  exact frame_any (F := Bits) m g h
theorem frame_ideal : Cert.quiescent_KernelIdeal := fun m g h => frame_any (F := Ideal) m g h

/-- The reference declares no semaphore, so its counters stay at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every device's result is its block of the reference's result. -/
theorem equal : Cert.algebraic_KernelIdeal_ReferenceIdeal := fun m g m' g' hpre hin =>
  ⟨sortedRows (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨((hr.1 c (2 : Fin 3)).trans (final_result m g c)).trans
          (result_eq m g _ _ hpre (fun e => (hin e).1) (fun e => (hin e).2) c),
        (hr.1 c (0 : Fin 3)).trans (final_rows m g c), (hr.1 c (1 : Fin 3)).trans (final_dest m g c)⟩)
      (run_main m g fun c => sends_256 m g c (hpre c)),
    (θ_run Cert.ReferenceIdeal.defs _ _).mono (fun _ h => h (0 : Dev Cert.ReferenceIdeal.nD))
      (Cert.ReferenceIdeal.Value.run (F := Ideal) m' g')⟩

theorem claim : Cert.Claim := ⟨Cert.Kernel.Gen.facts, Cert.KernelIdeal.Gen.facts, Cert.ReferenceIdeal.Gen.facts, Cert.Pre_balanced_Kernel.Gen.facts, Cert.Pre_balanced_ReferenceIdeal.Gen.facts, by
  exact ⟨frame_kernel, frame_ideal, frame_reference, fun m g _ => frame_reference m g trivial, trivial, equal⟩⟩

end Cert.Proof

end
